-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ preserves_Kernel_KernelIdeal
    ∧ algebraic_KernelIdeal_ReferenceIdeal_pre_finite_operands (hKernelIdeal := hKernelIdeal) (hReferenceIdeal := hReferenceIdeal) (hPre_finite_operands := hPre_finite_operands)
-- ==== Pre_finite_operands.lean ====
abbrev S10000x128 : Shape := ⟨2, ![10000, 128]⟩
abbrev S10000x10000 : Shape := ⟨2, ![10000, 10000]⟩
abbrev S3x128x128 : Shape := ⟨3, ![3, 128, 128]⟩
abbrev S_ : Shape := ⟨0, ![]⟩
abbrev S1x128x128 : Shape := ⟨3, ![1, 128, 128]⟩
abbrev S128x128 : Shape := ⟨2, ![128, 128]⟩

class Facts : Prop where
  bcast_S_S10000x128 : S_.BroadcastsInDim S10000x128 (![] : Fin 0 → Fin S10000x128.rank)
  slices_S3x128x128_S1x128x128_2_0_0 : S3x128x128.Slices ![2, 0, 0] S1x128x128
  shapeCasts_S1x128x128_S128x128 : S1x128x128.ShapeCasts S128x128
  bcast_S_S128x128 : S_.BroadcastsInDim S128x128 (![] : Fin 0 → Fin S128x128.rank)

variable [Facts]

def fn {F : FTy → Type} [FloatOps F] (main_arg0 : FVec F S10000x128 .f32) (main_arg1 : FVec F S10000x10000 .f32) (main_arg2 : FVec F S3x128x128 .f32) : IVec S10000x128 1 × IVec S128x128 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S1x128x128 .f32 := (extractStridedSlice S1x128x128 ![2, 0, 0] · slices_S3x128x128_S1x128x128_2_0_0) main_arg2
  let main_v4 : FVec F S128x128 .f32 := shapeCast S128x128 main_v3 shapeCasts_S1x128x128_S128x128
  let main_v5 : FVec F S128x128 .f32 := Host.absf main_v4
  let main_cst_0 : FVec F S_ .f32 := constant S_ .f32 0x7F800000#32
  let main_v6 : FVec F S128x128 .f32 := broadcastInDim S128x128 ![] bcast_S_S128x128 main_cst_0
  let main_v7 : IVec S128x128 1 := cmpf .olt main_v5 main_v6
  (main_v2, main_v7)
-- ==== Kernel.lean ====
abbrev S10000x128 : Shape := ⟨2, ![10000, 128]⟩
abbrev S10000x10000 : Shape := ⟨2, ![10000, 10000]⟩
abbrev S3x128x128 : Shape := ⟨3, ![3, 128, 128]⟩
abbrev S1x128x128 : Shape := ⟨3, ![1, 128, 128]⟩
abbrev S128x128 : Shape := ⟨2, ![128, 128]⟩
abbrev S200x10000 : Shape := ⟨2, ![200, 10000]⟩
abbrev S400x128 : Shape := ⟨2, ![400, 128]⟩
abbrev S800x10000 : Shape := ⟨2, ![800, 10000]⟩
abbrev S200x128 : Shape := ⟨2, ![200, 128]⟩

abbrev nBuf : Space → Nat
  | .hbm => 11
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S1x128x128, .f32⟩
  | .hbm, ⟨4, _⟩ => ⟨S128x128, .f32⟩
  | .hbm, ⟨5, _⟩ => ⟨S1x128x128, .f32⟩
  | .hbm, ⟨6, _⟩ => ⟨S128x128, .f32⟩
  | .hbm, ⟨7, _⟩ => ⟨S1x128x128, .f32⟩
  | .hbm, ⟨8, _⟩ => ⟨S128x128, .f32⟩
  | .hbm, ⟨9, _⟩ => ⟨S128x128, .f32⟩
  | .hbm, ⟨10, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S400x128, .f32⟩
  | .local _ .vmem, ⟨9, _⟩ => ⟨S400x128, .f32⟩
  | .local _ .vmem, ⟨10, _⟩ => ⟨S10000x128, .f32⟩
  | .local _ .vmem, ⟨11, _⟩ => ⟨S10000x128, .bf16⟩
  | .local _ .vmem, ⟨12, _⟩ => ⟨S800x10000, .bf16⟩
  | .local _ .vmem, ⟨13, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32_11 : BitVec 32 := 0#32
  let v28 : BitVec 1 := Scalar.cmpi .eq arg0 c0_i32_11
  let v29 : BitVec 32 := Scalar.extui v28
  let c0_i32_12 : BitVec 32 := 0#32
  let v30 : BitVec 1 := Scalar.cmpi .ne v29 c0_i32_12
  v30

def k0_off1 (i : grid0.Coords) : Fin 2 → Nat :=
  let arg1 : BitVec 32 := BitVec.ofNat 32 (i 1).val
  let c400_i32 : BitVec 32 := 400#32
  let v50 : BitVec 32 := Scalar.muli arg1 c400_i32
  let v51 : Index := Scalar.indexCast v50
  let c0_27 : Index := 0#32
  ![v51.toNat, 0]
def k0_cond2 (i : grid0.Coords) : BitVec 1 :=
  let arg1 : BitVec 32 := BitVec.ofNat 32 (i 1).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v61 : BitVec 32 := Scalar.extui v10
  let c0_i32_30 : BitVec 32 := 0#32
  let v62 : BitVec 1 := Scalar.cmpi .ne v61 c0_i32_30
  v62

def k0_off2 (i : grid0.Coords) : Fin 2 → Nat :=
  let arg1 : BitVec 32 := BitVec.ofNat 32 (i 1).val
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c13_i32_4 : BitVec 32 := 13#32
  let c0_i32_7 : BitVec 32 := 0#32
  let v17 : BitVec 1 := Scalar.cmpi .sgt c13_i32_4 c0_i32_7
  let v18 : BitVec 32 := Scalar.extui v17
  let c0_i32_8 : BitVec 32 := 0#32
  let v19 : BitVec 1 := Scalar.cmpi .slt c13_i32_4 c0_i32_8
  let v20 : BitVec 32 := Scalar.extui v19
  let v21 : BitVec 32 := Scalar.subi v18 v20
  let v22 : BitVec 1 := Scalar.cmpi .ne v16 v21
  let v23 : BitVec 32 := Scalar.remsi arg1 c13_i32_4
  let c0_i32_9 : BitVec 32 := 0#32
  let v24 : BitVec 1 := Scalar.cmpi .ne v23 c0_i32_9
  let v25 : BitVec 1 := Scalar.andi v22 v24
  let v11 : BitVec 32 := Scalar.divsi arg1 c13_i32_4
  let c1_i32_10 : BitVec 32 := 1#32
  let v26 : BitVec 32 := Scalar.subi v11 c1_i32_10
  let v27 : BitVec 32 := Scalar.select v25 v26 v11
  let c400_i32_33 : BitVec 32 := 400#32
  let v65 : BitVec 32 := Scalar.muli v27 c400_i32_33
  let v66 : Index := Scalar.indexCast v65
  let c0_34 : Index := 0#32
  ![v66.toNat, 0]
def k0_off3 (i : grid0.Coords) : Fin 2 → Nat :=
  let arg1 : BitVec 32 := BitVec.ofNat 32 (i 1).val
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c13_i32_4 : BitVec 32 := 13#32
  let c0_i32_7 : BitVec 32 := 0#32
  let v17 : BitVec 1 := Scalar.cmpi .sgt c13_i32_4 c0_i32_7
  let v18 : BitVec 32 := Scalar.extui v17
  let c0_i32_8 : BitVec 32 := 0#32
  let v19 : BitVec 1 := Scalar.cmpi .slt c13_i32_4 c0_i32_8
  let v20 : BitVec 32 := Scalar.extui v19
  let v21 : BitVec 32 := Scalar.subi v18 v20
  let v22 : BitVec 1 := Scalar.cmpi .ne v16 v21
  let v23 : BitVec 32 := Scalar.remsi arg1 c13_i32_4
  let c0_i32_9 : BitVec 32 := 0#32
  let v24 : BitVec 1 := Scalar.cmpi .ne v23 c0_i32_9
  let v25 : BitVec 1 := Scalar.andi v22 v24
  let v11 : BitVec 32 := Scalar.divsi arg1 c13_i32_4
  let c1_i32_10 : BitVec 32 := 1#32
  let v26 : BitVec 32 := Scalar.subi v11 c1_i32_10
  let v27 : BitVec 32 := Scalar.select v25 v26 v11
  let c400_i32_37 : BitVec 32 := 400#32
  let v72 : BitVec 32 := Scalar.muli v27 c400_i32_37
  let c200_i32 : BitVec 32 := 200#32
  let v73 : BitVec 32 := Scalar.addi v72 c200_i32
  let v74 : Index := Scalar.indexCast v73
  let c0_38 : Index := 0#32
  ![v74.toNat, 0]
def k0_cond3 (i : grid0.Coords) : BitVec 1 :=
  let arg0 : BitVec 32 := BitVec.ofNat 32 (i 0).val
  let c1_i32_13 : BitVec 32 := 1#32
  let v31 : BitVec 1 := Scalar.cmpi .eq arg0 c1_i32_13
  let arg1 : BitVec 32 := BitVec.ofNat 32 (i 1).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v32 : BitVec 1 := Scalar.andi v31 v10
  let v33 : BitVec 32 := Scalar.extui v32
  let c0_i32_14 : BitVec 32 := 0#32
  let v34 : BitVec 1 := Scalar.cmpi .ne v33 c0_i32_14
  v34

def k0_off4 (i : grid0.Coords) : Fin 2 → Nat :=
  let arg1 : BitVec 32 := BitVec.ofNat 32 (i 1).val
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c13_i32_4 : BitVec 32 := 13#32
  let c0_i32_7 : BitVec 32 := 0#32
  let v17 : BitVec 1 := Scalar.cmpi .sgt c13_i32_4 c0_i32_7
  let v18 : BitVec 32 := Scalar.extui v17
  let c0_i32_8 : BitVec 32 := 0#32
  let v19 : BitVec 1 := Scalar.cmpi .slt c13_i32_4 c0_i32_8
  let v20 : BitVec 32 := Scalar.extui v19
  let v21 : BitVec 32 := Scalar.subi v18 v20
  let v22 : BitVec 1 := Scalar.cmpi .ne v16 v21
  let v23 : BitVec 32 := Scalar.remsi arg1 c13_i32_4
  let c0_i32_9 : BitVec 32 := 0#32
  let v24 : BitVec 1 := Scalar.cmpi .ne v23 c0_i32_9
  let v25 : BitVec 1 := Scalar.andi v22 v24
  let v11 : BitVec 32 := Scalar.divsi arg1 c13_i32_4
  let c1_i32_10 : BitVec 32 := 1#32
  let v26 : BitVec 32 := Scalar.subi v11 c1_i32_10
  let v27 : BitVec 32 := Scalar.select v25 v26 v11
  let c400_i32 : BitVec 32 := 400#32
  let v43 : BitVec 32 := Scalar.muli v27 c400_i32
  let v44 : Index := Scalar.indexCast v43
  let c0 : Index := 0#32
  ![v44.toNat, 0]
def k0_off5 (i : grid0.Coords) : Fin 2 → Nat :=
  let arg1 : BitVec 32 := BitVec.ofNat 32 (i 1).val
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c13_i32_4 : BitVec 32 := 13#32
  let c0_i32_7 : BitVec 32 := 0#32
  let v17 : BitVec 1 := Scalar.cmpi .sgt c13_i32_4 c0_i32_7
  let v18 : BitVec 32 := Scalar.extui v17
  let c0_i32_8 : BitVec 32 := 0#32
  let v19 : BitVec 1 := Scalar.cmpi .slt c13_i32_4 c0_i32_8
  let v20 : BitVec 32 := Scalar.extui v19
  let v21 : BitVec 32 := Scalar.subi v18 v20
  let v22 : BitVec 1 := Scalar.cmpi .ne v16 v21
  let v23 : BitVec 32 := Scalar.remsi arg1 c13_i32_4
  let c0_i32_9 : BitVec 32 := 0#32
  let v24 : BitVec 1 := Scalar.cmpi .ne v23 c0_i32_9
  let v25 : BitVec 1 := Scalar.andi v22 v24
  let v11 : BitVec 32 := Scalar.divsi arg1 c13_i32_4
  let c1_i32_10 : BitVec 32 := 1#32
  let v26 : BitVec 32 := Scalar.subi v11 c1_i32_10
  let v27 : BitVec 32 := Scalar.select v25 v26 v11
  let c400_i32_23 : BitVec 32 := 400#32
  let v51 : BitVec 32 := Scalar.muli v27 c400_i32_23
  let c200_i32 : BitVec 32 := 200#32
  let v52 : BitVec 32 := Scalar.addi v51 c200_i32
  let v53 : Index := Scalar.indexCast v52
  let c0_24 : Index := 0#32
  ![v53.toNat, 0]
def k0_cond5 (i : grid0.Coords) : BitVec 1 :=
  let arg0 : BitVec 32 := BitVec.ofNat 32 (i 0).val
  let c1_i32_17 : BitVec 32 := 1#32
  let v40 : BitVec 1 := Scalar.cmpi .eq arg0 c1_i32_17
  let v41 : BitVec 32 := Scalar.extui v40
  let c0_i32_18 : BitVec 32 := 0#32
  let v42 : BitVec 1 := Scalar.cmpi .ne v41 c0_i32_18
  v42

def k0_off6 (i : grid0.Coords) : Fin 2 → Nat :=
  let arg1 : BitVec 32 := BitVec.ofNat 32 (i 1).val
  let c400_i32 : BitVec 32 := 400#32
  let v43 : BitVec 32 := Scalar.muli arg1 c400_i32
  let v44 : Index := Scalar.indexCast v43
  let c0 : Index := 0#32
  ![v44.toNat, 0]
def cc0_transform_0 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let v11 : BitVec 1 := Scalar.cmpi .eq arg1 c0_i32_4
  let c1_i32_5 : BitVec 32 := 1#32
  let v12 : BitVec 32 := Scalar.subi arg1 c1_i32_5
  let c24_i32 : BitVec 32 := 24#32
  let v13 : BitVec 32 := Scalar.select v11 c24_i32 v12
  let c1_i32_6 : BitVec 32 := 1#32
  let v14 : BitVec 1 := Scalar.cmpi .eq arg0 c1_i32_6
  let v15 : BitVec 1 := Scalar.andi v14 v10
  let v16 : BitVec 32 := Scalar.select v15 v13 arg1
  let c2_i32 : BitVec 32 := 2#32
  let v17 : BitVec 32 := Scalar.muli c2_i32 v16
  let c0_i32_7 : BitVec 32 := 0#32
  let v18 : BitVec 32 := Scalar.addi v17 c0_i32_7
  let c0_i32_8 : BitVec 32 := 0#32
  let c0_i32_9 : BitVec 32 := 0#32
  ![v18.toNat, c0_i32_8.toNat]

def cc0_transform_1 (i : grid0.Coords) : Fin 2 → Nat :=
  let arg0 : BitVec 32 := BitVec.ofNat 32 (i 0).val
  let arg1 : BitVec 32 := BitVec.ofNat 32 (i 1).val
  let c13_i32 : BitVec 32 := 13#32
  let c0_i32 : BitVec 32 := 0#32
  let v0 : BitVec 1 := Scalar.cmpi .eq c13_i32 c0_i32
  let c1_i32 : BitVec 32 := 1#32
  let v1 : BitVec 32 := Scalar.select v0 c1_i32 c13_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c0_i32_4 : BitVec 32 := 0#32
  let v11 : BitVec 1 := Scalar.cmpi .eq arg1 c0_i32_4
  let c1_i32_5 : BitVec 32 := 1#32
  let v12 : BitVec 32 := Scalar.subi arg1 c1_i32_5
  let c24_i32 : BitVec 32 := 24#32
  let v13 : BitVec 32 := Scalar.select v11 c24_i32 v12
  let c1_i32_6 : BitVec 32 := 1#32
  let v14 : BitVec 1 := Scalar.cmpi .eq arg0 c1_i32_6
  let v15 : BitVec 1 := Scalar.andi v14 v10
  let v16 : BitVec 32 := Scalar.select v15 v13 arg1
  let c2_i32 : BitVec 32 := 2#32
  let v17 : BitVec 32 := Scalar.muli c2_i32 v16
  let c1_i32_7 : BitVec 32 := 1#32
  let v18 : BitVec 32 := Scalar.addi v17 c1_i32_7
  let c0_i32_8 : BitVec 32 := 0#32
  let c0_i32_9 : BitVec 32 := 0#32
  ![v18.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S10000x128 : Shape := ⟨2, ![10000, 128]⟩
abbrev S10000x10000 : Shape := ⟨2, ![10000, 10000]⟩
abbrev S3x128x128 : Shape := ⟨3, ![3, 128, 128]⟩
abbrev S_ : Shape := ⟨0, ![]⟩
abbrev S1x10000x128 : Shape := ⟨3, ![1, 10000, 128]⟩
abbrev S3x10000x128 : Shape := ⟨3, ![3, 10000, 128]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S10000x128, .f32⟩
  | .hbm, ⟨4, _⟩ => ⟨S_, .f32⟩
  | .hbm, ⟨5, _⟩ => ⟨S10000x10000, .f32⟩
  | .hbm, ⟨6, _⟩ => ⟨S10000x10000, .f32⟩
  | .hbm, ⟨7, _⟩ => ⟨S10000x128, .f32⟩
  | .hbm, ⟨8, _⟩ => ⟨S10000x128, .f32⟩
  | .hbm, ⟨9, _⟩ => ⟨S1x10000x128, .f32⟩
  | .hbm, ⟨10, _⟩ => ⟨S1x10000x128, .f32⟩
  | .hbm, ⟨11, _⟩ => ⟨S1x10000x128, .f32⟩
  | .hbm, ⟨12, _⟩ => ⟨S3x10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Points.lean ====
/- The kernel's grid has 50 points, t = 25 p + i: two phases p of 25 row blocks i. This module says, point by
   point, which of the body's conditions hold, where its stores and loads fall, which block of each array a
   window holds, and where the output window is idle or written back. -/
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe

/-- The phase-one condition "this row block is not held in the cache", as the body computes it. -/
abbrev StreamCond (i : grid0.Coords) : Prop :=
  Scalar.cmpi .ne (Scalar.extui (Scalar.andi (Scalar.cmpi .eq (BitVec.ofNat 32 (i 0).val) 1#32)
    (Scalar.xori (Scalar.cmpi .eq
      (Scalar.select
        (Scalar.andi
          (Scalar.xori (Scalar.cmpi .slt (Scalar.remsi (BitVec.ofNat 32 (i 1).val) (Scalar.select (Scalar.cmpi .eq 13#32 0#32) 1#32 13#32)) 0#32)
            (Scalar.cmpi .slt (Scalar.select (Scalar.cmpi .eq 13#32 0#32) 1#32 13#32) 0#32))
          (Scalar.cmpi .ne (Scalar.remsi (BitVec.ofNat 32 (i 1).val) (Scalar.select (Scalar.cmpi .eq 13#32 0#32) 1#32 13#32)) 0#32))
        (Scalar.addi (Scalar.remsi (BitVec.ofNat 32 (i 1).val) (Scalar.select (Scalar.cmpi .eq 13#32 0#32) 1#32 13#32))
          (Scalar.select (Scalar.cmpi .eq 13#32 0#32) 1#32 13#32))
        (Scalar.remsi (BitVec.ofNat 32 (i 1).val) (Scalar.select (Scalar.cmpi .eq 13#32 0#32) 1#32 13#32)))
      0#32) 1#1)) : BitVec 32) 0#32 = 1#1

/-- Phase zero: the rows of `gso @ x` are computed. -/
theorem cond1_iff : ∀ i : grid0.Coords, k0_cond1 i = 1#1 ↔ (i 0).val = 0 := by decide +kernel
/-- The row block is one of the two the cache holds. -/
theorem cond2_iff : ∀ i : grid0.Coords, k0_cond2 i = 1#1 ↔ (i 1).val % 13 = 0 := by decide +kernel
/-- Phase one at a cached row block. -/
theorem cond3_iff : ∀ i : grid0.Coords, k0_cond3 i = 1#1 ↔ (i 0).val = 1 ∧ (i 1).val % 13 = 0 := by decide +kernel
/-- Phase one at a row block that is streamed again. -/
theorem streamCond_iff : ∀ i : grid0.Coords, StreamCond i ↔ (i 0).val = 1 ∧ ¬ (i 1).val % 13 = 0 := by decide +kernel
/-- Phase one: an output block is written. -/
theorem cond5_iff : ∀ i : grid0.Coords, k0_cond5 i = 1#1 ↔ (i 0).val = 1 := by decide +kernel

/-- The first half of a cached block lies at row 400 times its slot, -/
theorem off2_eq : ∀ i : grid0.Coords, k0_off2 i = ![400 * ((i 1).val / 13), 0] := by decide +kernel
/-- the second half 200 rows further, -/
theorem off3_eq : ∀ i : grid0.Coords, k0_off3 i = ![400 * ((i 1).val / 13) + 200, 0] := by decide +kernel
/-- and they are read back from where they were put. -/
theorem off4_eq : ∀ i : grid0.Coords, k0_off4 i = ![400 * ((i 1).val / 13), 0] := by decide +kernel
/-- The second read of the cache starts where the slot of the row block has its lower half. -/
theorem off5_eq : ∀ i : grid0.Coords, k0_off5 i = ![400 * ((i 1).val / 13) + 200, 0] := by decide +kernel

/-- Point `t`'s phase and row block. -/
theorem coords_val : ∀ t : Fin cfg0.N, (grid0.coords t 0).val = t.val / 25 ∧ (grid0.coords t 1).val = t.val % 25 := by
  decide +kernel

/-- In phase zero the output window is idle, -/
theorem idle6 : ∀ t : Fin cfg0.N, t.val < 25 → idle0 6 (grid0.coords t) = true := by decide +kernel
/-- and nothing is written back, -/
theorem noFlush6 : ∀ t : Fin cfg0.N, t.val < 25 → (cfg0.win 6).flush t = false := by decide +kernel
/-- in phase one it is live, -/
theorem live6 : ∀ t : Fin cfg0.N, 25 ≤ t.val → idle0 6 (grid0.coords t) = false := by decide +kernel
/-- and every point writes its block back. -/
theorem flush6 : ∀ t : Fin cfg0.N, 25 ≤ t.val → (cfg0.win 6).flush t = true := by decide +kernel

/-- The block that windows 0 and 1 hold: the point's own except at a cached point of phase one. -/
theorem block0 : ∀ t : Fin cfg0.N, (t.val < 25 ∨ ¬ (t.val % 25) % 13 = 0) →
    cc0_transform_0 (grid0.coords t) = ![2 * (t.val % 25), 0] := by decide +kernel
/-- The same of the second window's block. -/
theorem block1 : ∀ t : Fin cfg0.N, (t.val < 25 ∨ ¬ (t.val % 25) % 13 = 0) →
    cc0_transform_1 (grid0.coords t) = ![2 * (t.val % 25) + 1, 0] := by decide +kernel
/-- The output block of a phase-one point is its own row block. -/
theorem block6 : ∀ t : Fin cfg0.N, 25 ≤ t.val → cc0_transform_6 (grid0.coords t) = ![t.val - 25, 0] := by decide +kernel

end Cert.KernelIdeal.Gen

end
-- ==== Proof.Halves.lean ====
/- The pieces a body call reads and leaves: row blocks, cache slots, and a block stored in two halves. -/
module

public import proofs.«01_k».proof.Proof.Points
public import Idealize.ShloMosaic.Lib.VecWindow
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-- Two blocks of 200 rows, one under the other. -/
def halves {α : Type} (a b : S200x128.Idx → α) : S400x128.Idx → α := fun y =>
  if h : (y 0).val < 200 then a (ix2 (n0 := 200) (n1 := 128) ⟨(y 0).val, h⟩ (y 1))
  else b (ix2 (n0 := 200) (n1 := 128) ⟨(y 0).val - 200, by have : (y 0).val < 400 := (y 0).isLt; show _ < 200; omega⟩ (y 1))

/-- Row block `i` of a table of 10000 rows. -/
theorem rows_inb (i : grid0.Coords) : ∀ a, (![400 * (i 1).val, 0] : Fin 2 → ℕ) a + S400x128.size a ≤ S10000x128.size a := by
  revert i; decide +kernel
/-- The upper and the lower half of a cache slot. -/
theorem slot_inb (i : grid0.Coords) :
    ∀ a, (![400 * ((i 1).val / 13), 0] : Fin 2 → ℕ) a + S200x10000.size a ≤ S800x10000.size a := by revert i; decide +kernel
/-- The second half of a slot lies inside the cache. -/
theorem slot_inb2 (i : grid0.Coords) :
    ∀ a, (![400 * ((i 1).val / 13) + 200, 0] : Fin 2 → ℕ) a + S200x10000.size a ≤ S800x10000.size a := by revert i; decide +kernel

/-- A buffer whose two halves were stored, loaded whole. -/
theorem readCov_halves {Val : EltTy → Type} [∀ e, Nonempty (Val e)] {sig : RefSig} {κ : Kind} {sp : Space} {e : EltTy}
    (v : View sig κ sp S400x128 e) (h0 h1 h2) (a b : S200x128.Idx → Val e) :
    v.readCov [⟨Rect.unit (s := S400x128) ![200, 0] S200x128.size h1, b⟩, ⟨Rect.unit (s := S400x128) ![0, 0] S200x128.size h0, a⟩]
      (Rect.unit (s := S400x128) ![0, 0] S400x128.size h2).toLoadRect = halves a b := by
  refine (View.readAt_full v _ h2).trans (funext fun y => ?_)
  unfold halves
  by_cases h : (y 0).val < 200
  · rw [dif_pos h, View.read_writes_cons_rows_of_not_mem v _ h1 b _ y (o := 200) (W := 200) rfl rfl (Or.inl h)]
    exact View.read_writes_cons_rows_of_mem v _ h0 a _ y _ (o := 0) rfl (Nat.zero_add _).symm rfl
  · rw [dif_neg h]
    exact View.read_writes_cons_rows_of_mem v _ h1 b _ y _ (o := 200) rfl (by show (y 0).val = 200 + ((y 0).val - 200); omega) rfl

end Cert.KernelIdeal.Gen

end
-- ==== Proof.PhaseZero.lean ====
/- What one call of the kernel's body does, in the two cases of phase zero. -/
module

public import proofs.«01_k».proof.Proof.Halves
public import Idealize.ShloMosaic.Lib.VecWindow
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

set_option maxHeartbeats 1600000 in
/-- Phase zero at a cached row block: the block's rows of `gso @ x` go to the two tables, and the block itself to its cache slot. -/
theorem runFill (c : Dev nD) (i : grid0.Coords)
    (arg2 : Memref sig .tc .vmem S200x10000 .f32) (harg2 : arg2.IsWhole)
    (arg3 : Memref sig .tc .vmem S200x10000 .f32) (harg3 : arg3.IsWhole)
    (arg4 : Memref sig .tc .vmem S10000x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S400x128 .f32) (harg8 : arg8.IsWhole)
    (arg9 : Memref sig .tc .vmem S10000x128 .f32) (harg9 : arg9.IsWhole)
    (arg10 : Memref sig .tc .vmem S10000x128 .bf16) (harg10 : arg10.IsWhole)
    (arg11 : Memref sig .tc .vmem S800x10000 .bf16) (harg11 : arg11.IsWhole)
    (arg12 : Memref sig .tc .vmem S400x128 .f32) (harg12 : arg12.IsWhole)
    (hc1 : k0_cond1 i = 1#1) (hc2 : k0_cond2 i = 1#1) (hc3 : ¬ k0_cond3 i = 1#1) (hcs : ¬ StreamCond i)
    (hc5 : ¬ k0_cond5 i = 1#1)
    (x2 : Vec F S200x10000 .f32) (x3 : Vec F S200x10000 .f32) (x4 : Vec F S10000x128 .f32) (x5 : Vec F S128x128 .f32) (x6 : Vec F S128x128 .f32) (x7 : Vec F S128x128 .f32)
    (x8 : Vec F S400x128 .f32) (x9 : Vec F S10000x128 .f32) (x10 : Vec F S10000x128 .bf16) (x11 : Vec F S800x10000 .bf16)
    (E : Set ℕ) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare x8 ∗ owns (c : Thread nD τ) arg9 fullShare x9
        ∗ owns (c : Thread nD τ) arg10 fullShare x10 ∗ owns (c : Thread nD τ) arg11 fullShare x11
        ∗ (∃ d, owns (c : Thread nD τ) arg12 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare x8
            ∗ owns (c : Thread nD τ) arg9 fullShare (VecWindow.put x9 ![400 * (i 1).val, 0] S400x128.size (k0_pay5 x2 x4 x3 x4))
            ∗ owns (c : Thread nD τ) arg10 fullShare (VecWindow.put x10 ![400 * (i 1).val, 0] S400x128.size (k0_pay6 x2 x4 x3 x4))
            ∗ owns (c : Thread nD τ) arg11 fullShare (VecWindow.put (VecWindow.put x11 ![400 * ((i 1).val / 13), 0] S200x10000.size (k0_pay7 x2)) ![400 * ((i 1).val / 13) + 200, 0] S200x10000.size (k0_pay8 x3))
            ∗ (∃ d, owns (c : Thread nD τ) arg12 fullShare d)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10
            arg11 harg11 arg12 harg12) K := by
  simp only [cc0__body_eq_skeleton]; unfold cc0__body_skel
  simp only [k0_part1_eq_skeleton]; unfold k0_part1_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%f9, %h9, H9⟩, ⟨%f10, %h10, H10⟩, ⟨%f11, %h11, H11⟩, ⟨%d12, %f12, -, H12⟩, Hk⟩
  obtain rfl := harg2.eq_unread h2; obtain rfl := harg3.eq_unread h3; obtain rfl := harg4.eq_unread h4
  obtain rfl := harg5.eq_unread h5; obtain rfl := harg6.eq_unread h6; obtain rfl := harg7.eq_unread h7
  obtain rfl := harg8.eq_unread h8; obtain rfl := harg9.eq_unread h9; obtain rfl := harg10.eq_unread h10
  obtain rfl := harg11.eq_unread h11
  sl_exec (disch := first | sl_exact hc1 | sl_exact hc2 | sl_exact hc3 | sl_exact hcs | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [View.read_writes_cons_put _ _ _ _ _ (k0_off1_eq i), View.writes_nil, harg9.read_unread]
    repeat rw [View.readAt_full]
    simp only [harg2.read_unread, harg3.read_unread, harg4.read_unread]
  isplitl [H10]
  · iexists _; isplitr; swap; · iexact H10
    ipureintro
    rw [View.read_writes_cons_put _ _ _ _ _ (k0_off1_eq i), View.writes_nil, harg10.read_unread]
    repeat rw [View.readAt_full]
    simp only [harg2.read_unread, harg3.read_unread, harg4.read_unread]
  isplitl [H11]
  · iexists _; isplitr; swap; · iexact H11
    ipureintro
    rw [View.read_writes_cons_put _ _ _ _ _ (off3_eq i), View.read_writes_cons_put _ _ _ _ _ (off2_eq i), View.writes_nil,
      harg11.read_unread]
    repeat rw [View.readAt_full]
    simp only [harg2.read_unread, harg3.read_unread]
  iexists _; iexists _; isplitr; swap; · iexact H12
  ipureintro; rfl

set_option maxHeartbeats 1600000 in
/-- Phase zero at any other row block: the block's rows of `gso @ x` go to the two tables. -/
theorem runProduct (c : Dev nD) (i : grid0.Coords)
    (arg2 : Memref sig .tc .vmem S200x10000 .f32) (harg2 : arg2.IsWhole)
    (arg3 : Memref sig .tc .vmem S200x10000 .f32) (harg3 : arg3.IsWhole)
    (arg4 : Memref sig .tc .vmem S10000x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S400x128 .f32) (harg8 : arg8.IsWhole)
    (arg9 : Memref sig .tc .vmem S10000x128 .f32) (harg9 : arg9.IsWhole)
    (arg10 : Memref sig .tc .vmem S10000x128 .bf16) (harg10 : arg10.IsWhole)
    (arg11 : Memref sig .tc .vmem S800x10000 .bf16) (harg11 : arg11.IsWhole)
    (arg12 : Memref sig .tc .vmem S400x128 .f32) (harg12 : arg12.IsWhole)
    (hc1 : k0_cond1 i = 1#1) (hc2 : ¬ k0_cond2 i = 1#1) (hc3 : ¬ k0_cond3 i = 1#1) (hcs : ¬ StreamCond i)
    (hc5 : ¬ k0_cond5 i = 1#1)
    (x2 : Vec F S200x10000 .f32) (x3 : Vec F S200x10000 .f32) (x4 : Vec F S10000x128 .f32) (x5 : Vec F S128x128 .f32) (x6 : Vec F S128x128 .f32) (x7 : Vec F S128x128 .f32)
    (x8 : Vec F S400x128 .f32) (x9 : Vec F S10000x128 .f32) (x10 : Vec F S10000x128 .bf16) (x11 : Vec F S800x10000 .bf16)
    (E : Set ℕ) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare x8 ∗ owns (c : Thread nD τ) arg9 fullShare x9
        ∗ owns (c : Thread nD τ) arg10 fullShare x10 ∗ owns (c : Thread nD τ) arg11 fullShare x11
        ∗ (∃ d, owns (c : Thread nD τ) arg12 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare x8
            ∗ owns (c : Thread nD τ) arg9 fullShare (VecWindow.put x9 ![400 * (i 1).val, 0] S400x128.size (k0_pay5 x2 x4 x3 x4))
            ∗ owns (c : Thread nD τ) arg10 fullShare (VecWindow.put x10 ![400 * (i 1).val, 0] S400x128.size (k0_pay6 x2 x4 x3 x4))
            ∗ owns (c : Thread nD τ) arg11 fullShare x11 ∗ (∃ d, owns (c : Thread nD τ) arg12 fullShare d)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10
            arg11 harg11 arg12 harg12) K := by
  simp only [cc0__body_eq_skeleton]; unfold cc0__body_skel
  simp only [k0_part1_eq_skeleton]; unfold k0_part1_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%f9, %h9, H9⟩, ⟨%f10, %h10, H10⟩, ⟨%f11, %h11, H11⟩, ⟨%d12, %f12, -, H12⟩, Hk⟩
  obtain rfl := harg2.eq_unread h2; obtain rfl := harg3.eq_unread h3; obtain rfl := harg4.eq_unread h4
  obtain rfl := harg5.eq_unread h5; obtain rfl := harg6.eq_unread h6; obtain rfl := harg7.eq_unread h7
  obtain rfl := harg8.eq_unread h8; obtain rfl := harg9.eq_unread h9; obtain rfl := harg10.eq_unread h10
  obtain rfl := harg11.eq_unread h11
  sl_exec (disch := first | sl_exact hc1 | sl_exact hc2 | sl_exact hc3 | sl_exact hcs | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    rw [View.read_writes_cons_put _ _ _ _ _ (k0_off1_eq i), View.writes_nil, harg9.read_unread]
    repeat rw [View.readAt_full]
    simp only [harg2.read_unread, harg3.read_unread, harg4.read_unread]
  isplitl [H10]
  · iexists _; isplitr; swap; · iexact H10
    ipureintro
    rw [View.read_writes_cons_put _ _ _ _ _ (k0_off1_eq i), View.writes_nil, harg10.read_unread]
    repeat rw [View.readAt_full]
    simp only [harg2.read_unread, harg3.read_unread, harg4.read_unread]
  isplitl [H11]
  · iexists _; isplitr; · ipureintro; exact harg11.read_unread _
    iexact H11
  iexists _; iexists _; isplitr; swap; · iexact H12
  ipureintro; rfl

end Cert.KernelIdeal.Gen

end
-- ==== Proof.PhaseOne.lean ====
/- What one call of the kernel's body does, in the two cases of phase one. -/
module

public import proofs.«01_k».proof.Proof.Halves
public import Idealize.ShloMosaic.Lib.VecWindow
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

set_option maxHeartbeats 1600000 in
/-- Phase one at a cached row block: the output block is made from the cached block. -/
theorem runCached (c : Dev nD) (i : grid0.Coords)
    (arg2 : Memref sig .tc .vmem S200x10000 .f32) (harg2 : arg2.IsWhole)
    (arg3 : Memref sig .tc .vmem S200x10000 .f32) (harg3 : arg3.IsWhole)
    (arg4 : Memref sig .tc .vmem S10000x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S400x128 .f32) (harg8 : arg8.IsWhole)
    (arg9 : Memref sig .tc .vmem S10000x128 .f32) (harg9 : arg9.IsWhole)
    (arg10 : Memref sig .tc .vmem S10000x128 .bf16) (harg10 : arg10.IsWhole)
    (arg11 : Memref sig .tc .vmem S800x10000 .bf16) (harg11 : arg11.IsWhole)
    (arg12 : Memref sig .tc .vmem S400x128 .f32) (harg12 : arg12.IsWhole)
    (hc1 : ¬ k0_cond1 i = 1#1) (hc3 : k0_cond3 i = 1#1) (hcs : ¬ StreamCond i) (hc5 : k0_cond5 i = 1#1)
    (x2 : Vec F S200x10000 .f32) (x3 : Vec F S200x10000 .f32) (x4 : Vec F S10000x128 .f32) (x5 : Vec F S128x128 .f32) (x6 : Vec F S128x128 .f32) (x7 : Vec F S128x128 .f32)
    (x8 : Vec F S400x128 .f32) (x9 : Vec F S10000x128 .f32) (x10 : Vec F S10000x128 .bf16) (x11 : Vec F S800x10000 .bf16)
    (E : Set ℕ) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare x8 ∗ owns (c : Thread nD τ) arg9 fullShare x9
        ∗ owns (c : Thread nD τ) arg10 fullShare x10 ∗ owns (c : Thread nD τ) arg11 fullShare x11
        ∗ (∃ d, owns (c : Thread nD τ) arg12 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k0_pay3 (VecWindow.window x9 ![400 * (i 1).val, 0] S400x128.size (rows_inb i)) (VecWindow.window x4 ![400 * (i 1).val, 0] S400x128.size (rows_inb i))
              (halves (k0_pay9 (VecWindow.window x11 ![400 * ((i 1).val / 13), 0] S200x10000.size (slot_inb i)) x10)
                (k0_pay10 (VecWindow.window x11 ![400 * ((i 1).val / 13) + 200, 0] S200x10000.size (slot_inb2 i)) x10)) x6 x5 x7)
            ∗ owns (c : Thread nD τ) arg9 fullShare x9 ∗ owns (c : Thread nD τ) arg10 fullShare x10
            ∗ owns (c : Thread nD τ) arg11 fullShare x11 ∗ (∃ d, owns (c : Thread nD τ) arg12 fullShare d)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10
            arg11 harg11 arg12 harg12) K := by
  simp only [cc0__body_eq_skeleton]; unfold cc0__body_skel
  simp only [k0_part1_eq_skeleton]; unfold k0_part1_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%f9, %h9, H9⟩, ⟨%f10, %h10, H10⟩, ⟨%f11, %h11, H11⟩, ⟨%d12, %f12, -, H12⟩, Hk⟩
  obtain rfl := harg2.eq_unread h2; obtain rfl := harg3.eq_unread h3; obtain rfl := harg4.eq_unread h4
  obtain rfl := harg5.eq_unread h5; obtain rfl := harg6.eq_unread h6; obtain rfl := harg7.eq_unread h7
  obtain rfl := harg8.eq_unread h8; obtain rfl := harg9.eq_unread h9; obtain rfl := harg10.eq_unread h10
  obtain rfl := harg11.eq_unread h11
  sl_exec (disch := first | sl_exact hc1 | sl_exact hc3 | sl_exact hcs | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_run_names
    rw [View.read_writes_full, View.readAt_unit (s := S10000x128) (size := S400x128.size) arg9.view _ _ (k0_off6_eq i) (rows_inb i),
      View.readAt_unit (s := S10000x128) (size := S400x128.size) arg4.view _ _ (k0_off6_eq i) (rows_inb i), readCov_halves,
      View.readAt_unit (s := S800x10000) (size := S200x10000.size) arg11.view _ _ (off4_eq i) (slot_inb i),
      View.readAt_unit (s := S800x10000) (size := S200x10000.size) arg11.view _ _ (off5_eq i) (slot_inb2 i)]
    repeat rw [View.readAt_full]
    rw [harg4.read_unread, harg5.read_unread, harg6.read_unread, harg7.read_unread, harg9.read_unread, harg10.read_unread, harg11.read_unread]
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _; iexists _; isplitr; swap; · iexact H12
  ipureintro; rfl

set_option maxHeartbeats 1600000 in
/-- Phase one at any other row block: the output block is made from the block streamed again. -/
theorem runStreamed (c : Dev nD) (i : grid0.Coords)
    (arg2 : Memref sig .tc .vmem S200x10000 .f32) (harg2 : arg2.IsWhole)
    (arg3 : Memref sig .tc .vmem S200x10000 .f32) (harg3 : arg3.IsWhole)
    (arg4 : Memref sig .tc .vmem S10000x128 .f32) (harg4 : arg4.IsWhole)
    (arg5 : Memref sig .tc .vmem S128x128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S400x128 .f32) (harg8 : arg8.IsWhole)
    (arg9 : Memref sig .tc .vmem S10000x128 .f32) (harg9 : arg9.IsWhole)
    (arg10 : Memref sig .tc .vmem S10000x128 .bf16) (harg10 : arg10.IsWhole)
    (arg11 : Memref sig .tc .vmem S800x10000 .bf16) (harg11 : arg11.IsWhole)
    (arg12 : Memref sig .tc .vmem S400x128 .f32) (harg12 : arg12.IsWhole)
    (hc1 : ¬ k0_cond1 i = 1#1) (hc3 : ¬ k0_cond3 i = 1#1) (hcs : StreamCond i) (hc5 : k0_cond5 i = 1#1)
    (x2 : Vec F S200x10000 .f32) (x3 : Vec F S200x10000 .f32) (x4 : Vec F S10000x128 .f32) (x5 : Vec F S128x128 .f32) (x6 : Vec F S128x128 .f32) (x7 : Vec F S128x128 .f32)
    (x8 : Vec F S400x128 .f32) (x9 : Vec F S10000x128 .f32) (x10 : Vec F S10000x128 .bf16) (x11 : Vec F S800x10000 .bf16)
    (E : Set ℕ) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare x8 ∗ owns (c : Thread nD τ) arg9 fullShare x9
        ∗ owns (c : Thread nD τ) arg10 fullShare x10 ∗ owns (c : Thread nD τ) arg11 fullShare x11
        ∗ (∃ d, owns (c : Thread nD τ) arg12 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (k0_pay3 (VecWindow.window x9 ![400 * (i 1).val, 0] S400x128.size (rows_inb i)) (VecWindow.window x4 ![400 * (i 1).val, 0] S400x128.size (rows_inb i))
              (halves (k0_pay1 x2 x9) (k0_pay2 x3 x9)) x6 x5 x7)
            ∗ owns (c : Thread nD τ) arg9 fullShare x9 ∗ owns (c : Thread nD τ) arg10 fullShare x10
            ∗ owns (c : Thread nD τ) arg11 fullShare x11 ∗ (∃ d, owns (c : Thread nD τ) arg12 fullShare d)) -∗ K ⟨⟩))
      ⊢ wp frame (wpE (defs₀ (F := F)) Variants.none c none) E
          (cc0__body i arg2 harg2 arg3 harg3 arg4 harg4 arg5 harg5 arg6 harg6 arg7 harg7 arg8 harg8 arg9 harg9 arg10 harg10
            arg11 harg11 arg12 harg12) K := by
  simp only [cc0__body_eq_skeleton]; unfold cc0__body_skel
  simp only [k0_part1_eq_skeleton]; unfold k0_part1_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩,
    ⟨%f9, %h9, H9⟩, ⟨%f10, %h10, H10⟩, ⟨%f11, %h11, H11⟩, ⟨%d12, %f12, -, H12⟩, Hk⟩
  obtain rfl := harg2.eq_unread h2; obtain rfl := harg3.eq_unread h3; obtain rfl := harg4.eq_unread h4
  obtain rfl := harg5.eq_unread h5; obtain rfl := harg6.eq_unread h6; obtain rfl := harg7.eq_unread h7
  obtain rfl := harg8.eq_unread h8; obtain rfl := harg9.eq_unread h9; obtain rfl := harg10.eq_unread h10
  obtain rfl := harg11.eq_unread h11
  sl_exec (disch := first | sl_exact hc1 | sl_exact hc3 | sl_exact hcs | sl_exact hc5)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    sl_unfold_run_names
    rw [View.read_writes_full, View.readAt_unit (s := S10000x128) (size := S400x128.size) arg9.view _ _ (k0_off6_eq i) (rows_inb i),
      View.readAt_unit (s := S10000x128) (size := S400x128.size) arg4.view _ _ (k0_off6_eq i) (rows_inb i), readCov_halves]
    repeat rw [View.readAt_full]
    rw [harg4.read_unread, harg5.read_unread, harg6.read_unread, harg7.read_unread, harg9.read_unread, harg2.read_unread, harg3.read_unread]
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  iexists _; iexists _; isplitr; swap; · iexact H12
  ipureintro; rfl

end Cert.KernelIdeal.Gen

end
-- ==== Proof.Invariant.lean ====
/- What the kernel's scratch buffers hold between the points of the grid, and what each point of phase one leaves
   in its output block, in terms of the arrays the launch finds. -/
module

public import proofs.«01_k».proof.Proof.Halves
public import Idealize.ShloMosaic.Lib.VecWindow
public import Idealize.ShloMosaic.Lib.ValueIdx
public import Idealize.ShloMosaic.Lib.Pipeline.ValueKit

@[expose] public section

set_option maxRecDepth 16384

noncomputable section

namespace Cert.KernelIdeal.Gen

open Idealize.ShloMosaic Idealize.ShloMosaic.TcCoe
open Idealize.SL Idealize.SL.Sem

variable {F : FTy → Type} [FloatOps F]
variable (m : (ℓ : Loc nD τ sig) → Buf (Elt F) ℓ)

/-! ## A block put over a table -/

/-- Inside the block, the block's element. -/
theorem put_of_mem {α : Type} {s : Shape} (x : s.Idx → α) (off size : Fin s.rank → ℕ) (w : ((a : Fin s.rank) → Fin (size a)) → α)
    (y : s.Idx) (z : (a : Fin s.rank) → Fin (size a)) (h : ∀ a, (y a).val = off a + (z a).val) : VecWindow.put x off size w y = w z := by
  have hin : ∀ a, off a ≤ (y a).val ∧ (y a).val < off a + size a := fun a => by have := h a; have := (z a).isLt; omega
  unfold VecWindow.put
  rw [dif_pos hin]
  exact congrArg w (funext fun a => Fin.ext (by show (y a).val - off a = (z a).val; have := h a; omega))

/-- Outside it, the table's. -/
theorem put_of_not_mem {α : Type} {s : Shape} (x : s.Idx → α) (off size : Fin s.rank → ℕ) (w : ((a : Fin s.rank) → Fin (size a)) → α)
    (y : s.Idx) (a : Fin s.rank) (h : (y a).val < off a ∨ off a + size a ≤ (y a).val) : VecWindow.put x off size w y = x y := by
  unfold VecWindow.put
  exact dif_neg fun hin => by have := hin a; omega

/-! ## The arrays, and the tables made of them -/

/-- A grid point's row block. -/
def rowBlk (i : grid0.Coords) : Fin 25 := ⟨(i 1).val, (i 1).isLt⟩

/-- The top half of a row block lies inside the array, -/
theorem top_inb (b : Fin 25) : ∀ a, (![400 * b.val, 0] : Fin 2 → ℕ) a + S200x10000.size a ≤ S10000x10000.size a := by
  revert b; decide +kernel
/-- and so does the bottom half. -/
theorem bot_inb (b : Fin 25) : ∀ a, (![400 * b.val + 200, 0] : Fin 2 → ℕ) a + S200x10000.size a ≤ S10000x10000.size a := by
  revert b; decide +kernel

/-- The features `x`, as the launch finds them. -/
def xs (c : Dev nD) : Vec F S10000x128 .f32 := V m c main_arg0
/-- The operator `gso`. -/
def gs (c : Dev nD) : Vec F S10000x10000 .f32 := V m c main_arg1
/-- The second weight matrix, -/
def w1 (c : Dev nD) : Vec F S128x128 .f32 := V m c main_v3
/-- the third, -/
def w2 (c : Dev nD) : Vec F S128x128 .f32 := V m c main_v5
/-- and the first less the third. -/
def w02 (c : Dev nD) : Vec F S128x128 .f32 := V m c main_v6
/-- The upper 200 rows of row block `b` of `gso`, -/
def gTop (c : Dev nD) (b : Fin 25) : Vec F S200x10000 .f32 := VecWindow.window (gs m c) ![400 * b.val, 0] S200x10000.size (top_inb b)
/-- and the lower 200. -/
def gBot (c : Dev nD) (b : Fin 25) : Vec F S200x10000 .f32 := VecWindow.window (gs m c) ![400 * b.val + 200, 0] S200x10000.size (bot_inb b)

/-- The table `gso @ x` that phase zero builds: row block `b` from row block `b` of `gso`. -/
def t1 (c : Dev nD) : Vec F S10000x128 .f32 := fun j =>
  k0_pay5 (gTop m c ⟨(j 0).val / 400, by have : (j 0).val < 10000 := (j 0).isLt; omega⟩) (xs m c)
    (gBot m c ⟨(j 0).val / 400, by have : (j 0).val < 10000 := (j 0).isLt; omega⟩) (xs m c)
    (ix2 (n0 := 400) (n1 := 128) ⟨(j 0).val % 400, Nat.mod_lt _ (by decide)⟩ (j 1))
/-- The same table rounded to the narrow format. -/
def t1n (c : Dev nD) : Vec F S10000x128 .bf16 := fun j =>
  k0_pay6 (gTop m c ⟨(j 0).val / 400, by have : (j 0).val < 10000 := (j 0).isLt; omega⟩) (xs m c)
    (gBot m c ⟨(j 0).val / 400, by have : (j 0).val < 10000 := (j 0).isLt; omega⟩) (xs m c)
    (ix2 (n0 := 400) (n1 := 128) ⟨(j 0).val % 400, Nat.mod_lt _ (by decide)⟩ (j 1))
/-- The cache once it is full: slot `s` holds row block `13 s` of `gso`, rounded, its upper half above its lower. -/
def cached (c : Dev nD) : Vec F S800x10000 .bf16 := fun j =>
  if h : (j 0).val % 400 < 200 then
    k0_pay7 (gTop m c ⟨13 * ((j 0).val / 400), by have : (j 0).val < 800 := (j 0).isLt; omega⟩)
      (ix2 (n0 := 200) (n1 := 10000) ⟨(j 0).val % 400, h⟩ (j 1))
  else
    k0_pay8 (gBot m c ⟨13 * ((j 0).val / 400), by have : (j 0).val < 800 := (j 0).isLt; omega⟩)
      (ix2 (n0 := 200) (n1 := 10000) ⟨(j 0).val % 400 - 200, by have : (j 0).val % 400 < 400 := Nat.mod_lt _ (by decide); omega⟩ (j 1))

/-- What phase one accumulates for its row block: that block of `gso @ t1`, from the cache or from the streamed halves. -/
def acc (c : Dev nD) (i : grid0.Coords) : Vec F S400x128 .f32 :=
  if (i 1).val % 13 = 0 then
    halves (k0_pay9 (VecWindow.window (cached m c) ![400 * ((i 1).val / 13), 0] S200x10000.size (slot_inb i)) (t1n m c))
      (k0_pay10 (VecWindow.window (cached m c) ![400 * ((i 1).val / 13) + 200, 0] S200x10000.size (slot_inb2 i)) (t1n m c))
  else halves (k0_pay1 (gTop m c (rowBlk i)) (t1 m c)) (k0_pay2 (gBot m c (rowBlk i)) (t1 m c))

/-- The output block of a phase-one point. -/
def outBlk (c : Dev nD) (i : grid0.Coords) : Vec F S400x128 .f32 :=
  k0_pay3 (VecWindow.window (t1 m c) ![400 * (i 1).val, 0] S400x128.size (rows_inb i))
    (VecWindow.window (xs m c) ![400 * (i 1).val, 0] S400x128.size (rows_inb i)) (acc m c i) (w2 m c) (w1 m c) (w02 m c)

/-! ## The windows' blocks are these -/

/-- Window 2 reads one block at every point, -/
theorem index2 : ∀ t : Fin cfg0.N, win0_2.index t = ![0, 0] := by decide +kernel
/-- and so does window 3, -/
theorem index3 : ∀ t : Fin cfg0.N, win0_3.index t = ![0, 0] := by decide +kernel
/-- window 4, -/
theorem index4 : ∀ t : Fin cfg0.N, win0_4.index t = ![0, 0] := by decide +kernel
/-- and window 5. -/
theorem index5 : ∀ t : Fin cfg0.N, win0_5.index t = ![0, 0] := by decide +kernel

/-- Window 0 holds the upper half of the point's row block of `gso`, where the body reads it, -/
theorem iblk0 (c : Dev nD) (t : Fin cfg0.N) (h : t.val < 25 ∨ ¬ (t.val % 25) % 13 = 0) :
    (iblk m c 0 t : Vec F S200x10000 .f32) = gTop m c (rowBlk (grid0.coords t)) := by
  have e : win0_0.index t = ![2 * (t.val % 25), 0] := block0 t h
  have hc := (coords_val t).2
  funext y
  unfold gTop VecWindow.window gs rowBlk
  blk_ext [iblk, e, hc]
/-- window 1 the lower half, -/
theorem iblk1 (c : Dev nD) (t : Fin cfg0.N) (h : t.val < 25 ∨ ¬ (t.val % 25) % 13 = 0) :
    (iblk m c 1 t : Vec F S200x10000 .f32) = gBot m c (rowBlk (grid0.coords t)) := by
  have e : win0_1.index t = ![2 * (t.val % 25) + 1, 0] := block1 t h
  have hc := (coords_val t).2
  funext y
  unfold gBot VecWindow.window gs rowBlk
  blk_ext [iblk, e, hc]
/-- The other four hold their whole arrays: window 2 holds `x`, -/
theorem iblk2 (c : Dev nD) (t : Fin cfg0.N) : (iblk m c 2 t : Vec F S10000x128 .f32) = xs m c := by
  have e := index2 t
  funext y; unfold xs; blk_ext [iblk, e]
/-- window 3 the second weight matrix, -/
theorem iblk3 (c : Dev nD) (t : Fin cfg0.N) : (iblk m c 3 t : Vec F S128x128 .f32) = w1 m c := by
  have e := index3 t
  funext y; unfold w1; blk_ext [iblk, e]
/-- window 4 the third, -/
theorem iblk4 (c : Dev nD) (t : Fin cfg0.N) : (iblk m c 4 t : Vec F S128x128 .f32) = w2 m c := by
  have e := index4 t
  funext y; unfold w2; blk_ext [iblk, e]
/-- and window 5 the difference of the first and the third. -/
theorem iblk5 (c : Dev nD) (t : Fin cfg0.N) : (iblk m c 5 t : Vec F S128x128 .f32) = w02 m c := by
  have e := index5 t
  funext y; unfold w02; blk_ext [iblk, e]

/-! ## The invariant -/

/-- Before point `n`: the tables' first `n` row blocks are in place, and so is each cache slot whose point has passed. -/
structure Inv (c : Dev nD) (n : ℕ) (x9 : Vec F S10000x128 .f32) (x10 : Vec F S10000x128 .bf16) (x11 : Vec F S800x10000 .bf16) : Prop where
  rows : ∀ j : S10000x128.Idx, (j 0).val < 400 * n → x9 j = t1 m c j
  rowsN : ∀ j : S10000x128.Idx, (j 0).val < 400 * n → x10 j = t1n m c j
  slots : ∀ j : S800x10000.Idx, 13 * ((j 0).val / 400) < n → x11 j = cached m c j

/-- Nothing is claimed before the first point. -/
theorem Inv.zero (c : Dev nD) (x9 x10 x11) : Inv m c 0 x9 x10 x11 :=
  ⟨fun _ h => absurd h (by omega), fun _ h => absurd h (by omega), fun _ h => absurd h (by omega)⟩

variable {m}

/-- Once phase zero is over the buffers are the tables. -/
theorem Inv.full {c : Dev nD} {n : ℕ} {x9 x10 x11} (h : Inv m c n x9 x10 x11) (hn : 25 ≤ n) :
    x9 = t1 m c ∧ x10 = t1n m c ∧ x11 = cached m c :=
  ⟨funext fun j => h.rows j (by have : (j 0).val < 10000 := (j 0).isLt; omega),
    funext fun j => h.rowsN j (by have : (j 0).val < 10000 := (j 0).isLt; omega),
    funext fun j => h.slots j (by have : (j 0).val < 800 := (j 0).isLt; omega)⟩

/-- The tables satisfy the invariant before any point. -/
theorem Inv.of_full (c : Dev nD) (n : ℕ) : Inv m c n (t1 m c) (t1n m c) (cached m c) := ⟨fun _ _ => rfl, fun _ _ => rfl, fun _ _ => rfl⟩

/-- One row block more of `gso @ x`. -/
theorem rows_put {α : Type} (T x9 : S10000x128.Idx → α) (B : S400x128.Idx → α) (n : ℕ)
    (hB : ∀ j : S10000x128.Idx, (j 0).val / 400 = n → T j = B (ix2 (n0 := 400) (n1 := 128) ⟨(j 0).val % 400, Nat.mod_lt _ (by decide)⟩ (j 1)))
    (h : ∀ j : S10000x128.Idx, (j 0).val < 400 * n → x9 j = T j) (j : S10000x128.Idx) (hj : (j 0).val < 400 * (n + 1)) :
    VecWindow.put x9 ![400 * n, 0] S400x128.size B j = T j := by
  by_cases hlt : (j 0).val < 400 * n
  · rw [put_of_not_mem x9 _ _ B j 0 (Or.inl hlt)]; exact h j hlt
  · rw [hB j (by omega)]
    exact put_of_mem x9 _ _ B j _ fun a => by
      match a with
      | ⟨0, _⟩ => show (j 0).val = 400 * n + (j 0).val % 400; omega
      | ⟨1, _⟩ => exact (Nat.zero_add _).symm

/-- A phase-zero point whose row block is not cached keeps the invariant. -/
theorem Inv.product {c : Dev nD} {n : ℕ} {x9 x10 x11} (h : Inv m c n x9 x10 x11) (i : grid0.Coords) (hi : (i 1).val = n) (hs : ¬ n % 13 = 0) :
    Inv m c (n + 1)
      (VecWindow.put x9 ![400 * (i 1).val, 0] S400x128.size (k0_pay5 (gTop m c (rowBlk i)) (xs m c) (gBot m c (rowBlk i)) (xs m c)))
      (VecWindow.put x10 ![400 * (i 1).val, 0] S400x128.size (k0_pay6 (gTop m c (rowBlk i)) (xs m c) (gBot m c (rowBlk i)) (xs m c)))
      x11 := by
  subst hi
  exact ⟨rows_put _ _ _ _ (fun j hj => by unfold t1 rowBlk; simp only [hj]) h.rows,
    rows_put _ _ _ _ (fun j hj => by unfold t1n rowBlk; simp only [hj]) h.rowsN, fun j hj => h.slots j (by omega)⟩

/-- A phase-zero point whose row block is cached keeps it, and fills its slot. -/
theorem Inv.fill {c : Dev nD} {n : ℕ} {x9 x10 x11} (h : Inv m c n x9 x10 x11) (i : grid0.Coords) (hi : (i 1).val = n) (hs : n % 13 = 0) :
    Inv m c (n + 1)
      (VecWindow.put x9 ![400 * (i 1).val, 0] S400x128.size (k0_pay5 (gTop m c (rowBlk i)) (xs m c) (gBot m c (rowBlk i)) (xs m c)))
      (VecWindow.put x10 ![400 * (i 1).val, 0] S400x128.size (k0_pay6 (gTop m c (rowBlk i)) (xs m c) (gBot m c (rowBlk i)) (xs m c)))
      (VecWindow.put (VecWindow.put x11 ![400 * ((i 1).val / 13), 0] S200x10000.size (k0_pay7 (gTop m c (rowBlk i))))
        ![400 * ((i 1).val / 13) + 200, 0] S200x10000.size (k0_pay8 (gBot m c (rowBlk i)))) := by
  subst hi
  refine ⟨rows_put _ _ _ _ (fun j hj => by unfold t1 rowBlk; simp only [hj]) h.rows,
    rows_put _ _ _ _ (fun j hj => by unfold t1n rowBlk; simp only [hj]) h.rowsN, fun j hj => ?_⟩
  have hj8 : (j 0).val < 800 := (j 0).isLt
  by_cases hlt : 13 * ((j 0).val / 400) < (i 1).val
  · rw [put_of_not_mem _ _ _ _ j 0 (Or.inl (by show (j 0).val < 400 * ((i 1).val / 13) + 200; omega)),
      put_of_not_mem _ _ _ _ j 0 (Or.inl (by show (j 0).val < 400 * ((i 1).val / 13); omega))]
    exact h.slots j hlt
  · have hb : 13 * ((j 0).val / 400) = (i 1).val := by omega
    unfold cached
    by_cases hh : (j 0).val % 400 < 200
    · rw [dif_pos hh, put_of_not_mem _ _ _ _ j 0 (Or.inl (by show (j 0).val < 400 * ((i 1).val / 13) + 200; omega))]
      simp only [hb]
      exact put_of_mem _ _ _ _ j _ fun a => by
        match a with
        | ⟨0, _⟩ => show (j 0).val = 400 * ((i 1).val / 13) + (j 0).val % 400; omega
        | ⟨1, _⟩ => exact (Nat.zero_add _).symm
    · rw [dif_neg hh]
      simp only [hb]
      exact put_of_mem _ _ _ _ j _ fun a => by
        match a with
        | ⟨0, _⟩ => show (j 0).val = 400 * ((i 1).val / 13) + 200 + ((j 0).val % 400 - 200); omega
        | ⟨1, _⟩ => exact (Nat.zero_add _).symm

end Cert.KernelIdeal.Gen

end
-- ==== Proof.Body.lean ====
/- The pipeline's proof data, the body's obligation at every grid point, and the launch: every run of the kernel
   terminates, leaves its arguments as they were and every semaphore at zero, and writes to the result array what the
   proof data says. -/
module

public import proofs.«01_k».proof.Proof.PhaseZero
public import proofs.«01_k».proof.Proof.PhaseOne
public import proofs.«01_k».proof.Proof.Invariant
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The four scratch buffers, whole: the table of the first product, -/
abbrev sc0 : Memref sig .tc .vmem S10000x128 .f32 := Memref.whole cc0_scratch0
/-- its copy in the narrow format, -/
abbrev sc1 : Memref sig .tc .vmem S10000x128 .bf16 := Memref.whole cc0_scratch1
/-- the row blocks kept in the cache, -/
abbrev sc2 : Memref sig .tc .vmem S800x10000 .bf16 := Memref.whole cc0_scratch2
/-- and the second product of the block at hand. -/
abbrev sc3 : Memref sig .tc .vmem S400x128 .f32 := Memref.whole cc0_scratch3

/-- The tables and the cache at contents that satisfy the invariant before point `n`. -/
def tables (c : Dev nD) (n : ℕ) : sProp 𝕄 :=
  iprop(∃ x9, ∃ x10, ∃ x11, ⌜Inv m c n x9 x10 x11⌝ ∗ owns (c : Thread nD τ) sc0 fullShare x9
    ∗ owns (c : Thread nD τ) sc1 fullShare x10 ∗ owns (c : Thread nD τ) sc2 fullShare x11)

/-- What a grid point finds: the tables so far, the accumulator and the generator register at anything. -/
def Phi (c : Dev nD) (n : ℕ) : sProp 𝕄 :=
  iprop(tables m c n ∗ (∃ d, owns (c : Thread nD τ) sc3 fullShare d) ∗ (∃ r, prngReg c r))

/-- The launch hands the region its scratch at anything. -/
theorem scratch_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The proof data on core `c`: each input's buffer keeps its block, the output's buffer gets the point's block, the
    scratch follows `Phi`, and the two windows on `gso` hold half of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c (grid0.coords t)
  Φ t := Phi m c t.val
  q w := Pipeline.shareOf spec0 w
  owed _ := 0

/-- Each window's array starts with what the host operations leave in it. -/
theorem A_eq (c : Dev nD) (w : Fin cfg0.W) : (dats m 0 c).A w = V m c (Pipeline.arrRef spec0 w) := by
  dsimp only [dats]
/-- After a point, a window that reads holds its block still: here window 0, -/
theorem after0_0 (c : Dev nD) (t : Fin cfg0.N) : (dats m 0 c).after 0 t = iblk m c 0 t := by dsimp only [dats]
/-- window 1, -/
theorem after0_1 (c : Dev nD) (t : Fin cfg0.N) : (dats m 0 c).after 1 t = iblk m c 1 t := by dsimp only [dats]
/-- window 2, -/
theorem after0_2 (c : Dev nD) (t : Fin cfg0.N) : (dats m 0 c).after 2 t = iblk m c 2 t := by dsimp only [dats]
/-- window 3, -/
theorem after0_3 (c : Dev nD) (t : Fin cfg0.N) : (dats m 0 c).after 3 t = iblk m c 3 t := by dsimp only [dats]
/-- window 4, -/
theorem after0_4 (c : Dev nD) (t : Fin cfg0.N) : (dats m 0 c).after 4 t = iblk m c 4 t := by dsimp only [dats]
/-- and window 5; -/
theorem after0_5 (c : Dev nD) (t : Fin cfg0.N) : (dats m 0 c).after 5 t = iblk m c 5 t := by dsimp only [dats]
/-- window 6 holds what the proof data names. -/
theorem after0_6 (c : Dev nD) (t : Fin cfg0.N) : (dats m 0 c).after 6 t = outBlk m c (grid0.coords t) := by dsimp only [dats]

/-- Before a point, a window that reads holds the block that the point asks for: here window 0, -/
theorem before0_0 (c : Dev nD) (t : Fin cfg0.N) (d) : (dats m 0 c).before 0 t d = iblk m c 0 t :=
  before0_0_of m (dats m 0 c) (A_eq m c 0) (after0_0 m c) t d
/-- window 1, -/
theorem before0_1 (c : Dev nD) (t : Fin cfg0.N) (d) : (dats m 0 c).before 1 t d = iblk m c 1 t :=
  before0_1_of m (dats m 0 c) (A_eq m c 1) (after0_1 m c) t d
/-- window 2, -/
theorem before0_2 (c : Dev nD) (t : Fin cfg0.N) (d) : (dats m 0 c).before 2 t d = iblk m c 2 t :=
  before0_2_of m (dats m 0 c) (A_eq m c 2) (after0_2 m c) t d
/-- window 3, -/
theorem before0_3 (c : Dev nD) (t : Fin cfg0.N) (d) : (dats m 0 c).before 3 t d = iblk m c 3 t :=
  before0_3_of m (dats m 0 c) (A_eq m c 3) (after0_3 m c) t d
/-- window 4, -/
theorem before0_4 (c : Dev nD) (t : Fin cfg0.N) (d) : (dats m 0 c).before 4 t d = iblk m c 4 t :=
  before0_4_of m (dats m 0 c) (A_eq m c 4) (after0_4 m c) t d
/-- and window 5. -/
theorem before0_5 (c : Dev nD) (t : Fin cfg0.N) (d) : (dats m 0 c).before 5 t d = iblk m c 5 t :=
  before0_5_of m (dats m 0 c) (A_eq m c 5) (after0_5 m c) t d

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- An input's buffer is left at its block. -/
theorem leaves0 (c : Dev nD) (t : Fin cfg0.N) :
    (dats m 0 c).leavesExact 0 t = owns (c : Thread nD τ) (win0_0.stage (cfg0.slots t 0)) fullShare (iblk m c 0 t) := by
  unfold Dat.leavesExact; rw [show cfg0.idle 0 (grid0.coords t) = false from rfl, after0_0]
/-- The same of window 1, -/
theorem leaves1 (c : Dev nD) (t : Fin cfg0.N) :
    (dats m 0 c).leavesExact 1 t = owns (c : Thread nD τ) (win0_1.stage (cfg0.slots t 1)) fullShare (iblk m c 1 t) := by
  unfold Dat.leavesExact; rw [show cfg0.idle 1 (grid0.coords t) = false from rfl, after0_1]
/-- of window 2, -/
theorem leaves2 (c : Dev nD) (t : Fin cfg0.N) :
    (dats m 0 c).leavesExact 2 t = owns (c : Thread nD τ) (win0_2.stage (cfg0.slots t 2)) fullShare (iblk m c 2 t) := by
  unfold Dat.leavesExact; rw [show cfg0.idle 2 (grid0.coords t) = false from rfl, after0_2]
/-- of window 3, -/
theorem leaves3 (c : Dev nD) (t : Fin cfg0.N) :
    (dats m 0 c).leavesExact 3 t = owns (c : Thread nD τ) (win0_3.stage (cfg0.slots t 3)) fullShare (iblk m c 3 t) := by
  unfold Dat.leavesExact; rw [show cfg0.idle 3 (grid0.coords t) = false from rfl, after0_3]
/-- of window 4, -/
theorem leaves4 (c : Dev nD) (t : Fin cfg0.N) :
    (dats m 0 c).leavesExact 4 t = owns (c : Thread nD τ) (win0_4.stage (cfg0.slots t 4)) fullShare (iblk m c 4 t) := by
  unfold Dat.leavesExact; rw [show cfg0.idle 4 (grid0.coords t) = false from rfl, after0_4]
/-- and of window 5. -/
theorem leaves5 (c : Dev nD) (t : Fin cfg0.N) :
    (dats m 0 c).leavesExact 5 t = owns (c : Thread nD τ) (win0_5.stage (cfg0.slots t 5)) fullShare (iblk m c 5 t) := by
  unfold Dat.leavesExact; rw [show cfg0.idle 5 (grid0.coords t) = false from rfl, after0_5]
/-- In phase one the output's buffer is left at the point's block. -/
theorem leaves6 (c : Dev nD) (t : Fin cfg0.N) (h : 25 ≤ t.val) :
    (dats m 0 c).leavesExact 6 t = owns (c : Thread nD τ) (win0_6.stage (cfg0.slots t 6)) fullShare (outBlk m c (grid0.coords t)) := by
  unfold Dat.leavesExact; rw [show cfg0.idle 6 (grid0.coords t) = false from live6 t h, after0_6]

set_option maxHeartbeats 4800000 in
/-- The body at any point takes what the pipeline hands it to what the proof data says it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  rw [leaves0, leaves1, leaves2, leaves3, leaves4, leaves5]
  have hN : t.val < 50 := lt_of_lt_of_eq t.isLt (show cfg0.N = 50 from N_0)
  obtain ⟨hp, hr⟩ := coords_val t
  unfold Phi tables
  by_cases hph : t.val < 25
  · have hp0 : (grid0.coords t 0).val = 0 := by omega
    have hr0 : (grid0.coords t 1).val = t.val := by omega
    have hc1 : k0_cond1 (grid0.coords t) = 1#1 := (cond1_iff _).2 hp0
    have hc3 : ¬ k0_cond3 (grid0.coords t) = 1#1 := fun h => by have := ((cond3_iff _).1 h).1; omega
    have hcs : ¬ StreamCond (grid0.coords t) := fun h => by have := ((streamCond_iff _).1 h).1; omega
    have hc5 : ¬ k0_cond5 (grid0.coords t) = 1#1 := fun h => by have := (cond5_iff _).1 h; omega
    rw [Dat.leavesExact_idle (dats m 0 c) 6 t (idle6 t hph) (noFlush6 t hph)]
    by_cases hs : t.val % 13 = 0
    · have hc2 : k0_cond2 (grid0.coords t) = 1#1 := (cond2_iff _).2 (by omega)
      iintro ⟨⟨⟨%x9, %x10, %x11, %hI, T9, T10, T11⟩, HA, Hg⟩, Ho, ⟨%d0, H0⟩, ⟨%d1, H1⟩, ⟨%d2, H2⟩, ⟨%d3, H3⟩, ⟨%d4, H4⟩, ⟨%d5, H5⟩, ⟨%d6, H6⟩⟩
      iapply (runFill c (grid0.coords t) _ _ _ _ _ _ _ _ _ _ _ _ _ _ _ _ _ _ _ _ _ _ hc1 hc2 hc3 hcs hc5
        (iblk m c 0 t) (iblk m c 1 t) (iblk m c 2 t) (iblk m c 3 t) (iblk m c 4 t) (iblk m c 5 t) _ x9 x10 x11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [T9]; · iexact T9
      isplitl [T10]; · iexact T10
      isplitl [T11]; · iexact T11
      isplitl [HA]; · iexact HA
      iintro ⟨H0, H1, H2, H3, H4, H5, H6, T9, T10, T11, HA⟩
      isplitl [T9 T10 T11 HA Hg]
      · isplitl [T9 T10 T11]
        · iexists _; iexists _; iexists _
          isplitr
          swap
          · isplitl [T9]; · iexact T9
            isplitl [T10]; · iexact T10
            iexact T11
          ipureintro
          rw [iblk0 m c t (Or.inl hph), iblk1 m c t (Or.inl hph), iblk2]
          exact hI.fill (grid0.coords t) hr0 hs
        isplitl [HA]; · iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc2 : ¬ k0_cond2 (grid0.coords t) = 1#1 := fun h => by have := (cond2_iff _).1 h; omega
      iintro ⟨⟨⟨%x9, %x10, %x11, %hI, T9, T10, T11⟩, HA, Hg⟩, Ho, ⟨%d0, H0⟩, ⟨%d1, H1⟩, ⟨%d2, H2⟩, ⟨%d3, H3⟩, ⟨%d4, H4⟩, ⟨%d5, H5⟩, ⟨%d6, H6⟩⟩
      iapply (runProduct c (grid0.coords t) _ _ _ _ _ _ _ _ _ _ _ _ _ _ _ _ _ _ _ _ _ _ hc1 hc2 hc3 hcs hc5
        (iblk m c 0 t) (iblk m c 1 t) (iblk m c 2 t) (iblk m c 3 t) (iblk m c 4 t) (iblk m c 5 t) _ x9 x10 x11 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [T9]; · iexact T9
      isplitl [T10]; · iexact T10
      isplitl [T11]; · iexact T11
      isplitl [HA]; · iexact HA
      iintro ⟨H0, H1, H2, H3, H4, H5, H6, T9, T10, T11, HA⟩
      isplitl [T9 T10 T11 HA Hg]
      · isplitl [T9 T10 T11]
        · iexists _; iexists _; iexists _
          isplitr
          swap
          · isplitl [T9]; · iexact T9
            isplitl [T10]; · iexact T10
            iexact T11
          ipureintro
          rw [iblk0 m c t (Or.inl hph), iblk1 m c t (Or.inl hph), iblk2]
          exact hI.product (grid0.coords t) hr0 hs
        isplitl [HA]; · iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hph : 25 ≤ t.val := by omega
    have hp1 : (grid0.coords t 0).val = 1 := by omega
    have hc1 : ¬ k0_cond1 (grid0.coords t) = 1#1 := fun h => by have := (cond1_iff _).1 h; omega
    have hc5 : k0_cond5 (grid0.coords t) = 1#1 := (cond5_iff _).2 hp1
    rw [leaves6 m c t hph]
    by_cases hs : (t.val % 25) % 13 = 0
    · have hc3 : k0_cond3 (grid0.coords t) = 1#1 := (cond3_iff _).2 ⟨hp1, by omega⟩
      have hcs : ¬ StreamCond (grid0.coords t) := fun h => ((streamCond_iff _).1 h).2 (by omega)
      have ho : outBlk m c (grid0.coords t)
          = k0_pay3 (VecWindow.window (t1 m c) ![400 * (grid0.coords t 1).val, 0] S400x128.size (rows_inb (grid0.coords t)))
            (VecWindow.window (iblk m c 2 t : Vec F S10000x128 .f32) ![400 * (grid0.coords t 1).val, 0] S400x128.size (rows_inb (grid0.coords t)))
            (halves (k0_pay9 (VecWindow.window (cached m c) ![400 * ((grid0.coords t 1).val / 13), 0] S200x10000.size (slot_inb (grid0.coords t))) (t1n m c))
              (k0_pay10 (VecWindow.window (cached m c) ![400 * ((grid0.coords t 1).val / 13) + 200, 0] S200x10000.size (slot_inb2 (grid0.coords t))) (t1n m c)))
            (iblk m c 4 t : Vec F S128x128 .f32) (iblk m c 3 t : Vec F S128x128 .f32) (iblk m c 5 t : Vec F S128x128 .f32) := by
        rw [iblk2, iblk3, iblk4, iblk5]; unfold outBlk acc; rw [if_pos (by omega)]
      rw [ho]
      iintro ⟨⟨⟨%x9, %x10, %x11, %hI, T9, T10, T11⟩, HA, Hg⟩, Ho, ⟨%d0, H0⟩, ⟨%d1, H1⟩, ⟨%d2, H2⟩, ⟨%d3, H3⟩, ⟨%d4, H4⟩, ⟨%d5, H5⟩, ⟨%d6, H6⟩⟩
      obtain ⟨rfl, rfl, rfl⟩ := hI.full hph
      iapply (runCached c (grid0.coords t) _ _ _ _ _ _ _ _ _ _ _ _ _ _ _ _ _ _ _ _ _ _ hc1 hc3 hcs hc5
        (iblk m c 0 t) (iblk m c 1 t) (iblk m c 2 t) (iblk m c 3 t) (iblk m c 4 t) (iblk m c 5 t) _ (t1 m c) (t1n m c) (cached m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [T9]; · iexact T9
      isplitl [T10]; · iexact T10
      isplitl [T11]; · iexact T11
      isplitl [HA]; · iexact HA
      iintro ⟨H0, H1, H2, H3, H4, H5, H6, T9, T10, T11, HA⟩
      isplitl [T9 T10 T11 HA Hg]
      · isplitl [T9 T10 T11]
        · iexists _; iexists _; iexists _
          isplitr
          swap
          · isplitl [T9]; · iexact T9
            isplitl [T10]; · iexact T10
            iexact T11
          ipureintro
          exact Inv.of_full c _
        isplitl [HA]; · iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc3 : ¬ k0_cond3 (grid0.coords t) = 1#1 := fun h => by have := ((cond3_iff _).1 h).2; omega
      have hcs : StreamCond (grid0.coords t) := (streamCond_iff _).2 ⟨hp1, by omega⟩
      have ho : outBlk m c (grid0.coords t)
          = k0_pay3 (VecWindow.window (t1 m c) ![400 * (grid0.coords t 1).val, 0] S400x128.size (rows_inb (grid0.coords t)))
            (VecWindow.window (iblk m c 2 t : Vec F S10000x128 .f32) ![400 * (grid0.coords t 1).val, 0] S400x128.size (rows_inb (grid0.coords t)))
            (halves (k0_pay1 (iblk m c 0 t : Vec F S200x10000 .f32) (t1 m c)) (k0_pay2 (iblk m c 1 t : Vec F S200x10000 .f32) (t1 m c)))
            (iblk m c 4 t : Vec F S128x128 .f32) (iblk m c 3 t : Vec F S128x128 .f32) (iblk m c 5 t : Vec F S128x128 .f32) := by
        rw [iblk0 m c t (Or.inr hs), iblk1 m c t (Or.inr hs), iblk2, iblk3, iblk4, iblk5]; unfold outBlk acc; rw [if_neg (by omega)]
      rw [ho]
      iintro ⟨⟨⟨%x9, %x10, %x11, %hI, T9, T10, T11⟩, HA, Hg⟩, Ho, ⟨%d0, H0⟩, ⟨%d1, H1⟩, ⟨%d2, H2⟩, ⟨%d3, H3⟩, ⟨%d4, H4⟩, ⟨%d5, H5⟩, ⟨%d6, H6⟩⟩
      obtain ⟨rfl, rfl, rfl⟩ := hI.full hph
      iapply (runStreamed c (grid0.coords t) _ _ _ _ _ _ _ _ _ _ _ _ _ _ _ _ _ _ _ _ _ _ hc1 hc3 hcs hc5
        (iblk m c 0 t) (iblk m c 1 t) (iblk m c 2 t) (iblk m c 3 t) (iblk m c 4 t) (iblk m c 5 t) _ (t1 m c) (t1n m c) (cached m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [T9]; · iexact T9
      isplitl [T10]; · iexact T10
      isplitl [T11]; · iexact T11
      isplitl [HA]; · iexact HA
      iintro ⟨H0, H1, H2, H3, H4, H5, H6, T9, T10, T11, HA⟩
      isplitl [T9 T10 T11 HA Hg]
      · isplitl [T9 T10 T11]
        · iexists _; iexists _; iexists _
          isplitr
          swap
          · isplitl [T9]; · iexact T9
            isplitl [T10]; · iexact T10
            iexact T11
          ipureintro
          exact Inv.of_full c _
        isplitl [HA]; · iexact HA
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t` is the body. -/
theorem defs₀_row (t : Fin cfg0.N) : defs₀ (F := F) .tc cfg0.body (cfg0.bodyArgs t (cfg0.slots t)) = bodyAt0 t := by
  unfold defs₀; rw [Defs.onTc_tc]

/-- The body meets what the launch asks of it at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what the first point finds, -/
theorem hin (c : Dev nD) : Pipeline.ΦA spec0 c ⊢ (dats m 0 c).Φ 0 := by
  rw [show (dats m 0 c).Φ 0 = Phi m c 0 from rfl, scratch_eq]
  unfold Phi tables
  iintro ⟨⟨⟨%x9, T9⟩, ⟨%x10, T10⟩, ⟨%x11, T11⟩, HA⟩, Hg⟩
  isplitl [T9 T10 T11]
  · iexists _; iexists _; iexists _
    isplitr
    swap
    · isplitl [T9]; · iexact T9
      isplitl [T10]; · iexact T10
      iexact T11
    ipureintro
    exact Inv.zero m c _ _ _
  isplitl [HA]; · iexact HA
  iexact Hg

/-- and the last point gives it back. -/
theorem hout (c : Dev nD) : (dats m 0 c).Φ (Fin.last cfg0.N) ⊢ Pipeline.ΦA spec0 c := by
  rw [show (dats m 0 c).Φ (Fin.last cfg0.N) = Phi m c cfg0.N from rfl, scratch_eq]
  unfold Phi tables
  iintro ⟨⟨%x9, %x10, %x11, -, T9, T10, T11⟩, HA, Hg⟩
  isplitl [T9 T10 T11 HA]
  · isplitl [T9]; · iexists _; iexact T9
    isplitl [T10]; · iexists _; iexact T10
    isplitl [T11]; · iexists _; iexact T11
    iexact HA
  iexact Hg

/-! ## The launch -/

set_option backward.isDefEq.respectTransparency.types false in
/-- Every run of the kernel terminates with each array as the proof data says and every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every run of the kernel terminates with each array as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, the semaphores at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Printed.lean ====
/- The kernel as printed and the kernel printed for the extended reals are one program at every float values, so what is proved of the second's frame holds of the first. -/
module

public import proofs.«01_k».proof.Proof.Body
public import proofs.«01_k».proof.Proof.Gen.Kernel

@[expose] public section

noncomputable section

namespace Cert.Kernel.Gen

open Idealize.ShloMosaic Idealize.SL.Sem

attribute [local instance] Cert.Kernel.Gen.facts

variable {F : FTy → Type} [FloatOps F]

/-- The two body tables hold the same programs, -/
theorem bodies_same : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => rfl

/-- so the tables with the launch added do, -/
theorem tables_same : Cert.Kernel.defs (F := F) = Cert.KernelIdeal.defs (F := F) := by
  unfold Cert.Kernel.defs Cert.KernelIdeal.defs
  rw [bodies_same]
  rfl

/-- and the two entry programs are equal. -/
theorem mains_same : Cert.Kernel.main (F := F) = Cert.KernelIdeal.main (F := F) := by rfl

/-- Every run of the printed kernel terminates with its arguments as they were and every semaphore at zero. -/
theorem quiescent (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [tables_same, mains_same]
  exact Cert.KernelIdeal.Gen.quiescent m ρ

end Cert.Kernel.Gen

end
-- ==== Proof.Value.lean ====
/- Over the extended reals: what each table of the kernel holds at an index, and the result array after the run. -/
module

public import proofs.«01_k».proof.Proof.Body
public import Idealize.ShloMosaic.Lib.Pointwise
public import Idealize.ShloMosaic.Lib.Pipeline.ValueKit
public import Idealize.ShloMosaic.PureOps.Ideal

@[expose] public section

set_option maxRecDepth 16384

noncomputable section

namespace Cert.KernelIdeal.Gen

open Idealize.ShloMosaic Idealize.ShloMosaic.TcCoe
open Idealize.SL Idealize.SL.Sem

variable (m : (ℓ : Loc nD τ sig) → Buf (Elt Ideal) ℓ)

/-- The number two, as the kernel and the reference write it. -/
abbrev two : EReal := Ideal.ofBits .f32 0x40000000#32

/-! ## The body's arithmetic at an index -/

/-- The upper half of a streamed block of the second product at an index: a sum over the columns. -/
theorem pay1_at (a : S200x10000.Idx → EReal) (b : S10000x128.Idx → EReal) (r : Fin 200) (n : Fin 128) :
    (k0_pay1 (F := Ideal) a b (ix2 r n) : EReal) = ∑ k : Fin 10000, a (ix2 r k) * b (ix2 k n) := by
  pointwise [k0_pay1]
/-- The lower half likewise, -/
theorem pay2_at (a : S200x10000.Idx → EReal) (b : S10000x128.Idx → EReal) (r : Fin 200) (n : Fin 128) :
    (k0_pay2 (F := Ideal) a b (ix2 r n) : EReal) = ∑ k : Fin 10000, a (ix2 r k) * b (ix2 k n) := by
  pointwise [k0_pay2]
/-- the upper half of a cached block, -/
theorem pay9_at (a : S200x10000.Idx → EReal) (b : S10000x128.Idx → EReal) (r : Fin 200) (n : Fin 128) :
    (k0_pay9 (F := Ideal) a b (ix2 r n) : EReal) = ∑ k : Fin 10000, a (ix2 r k) * b (ix2 k n) := by
  pointwise [k0_pay9]
/-- and its lower half. -/
theorem pay10_at (a : S200x10000.Idx → EReal) (b : S10000x128.Idx → EReal) (r : Fin 200) (n : Fin 128) :
    (k0_pay10 (F := Ideal) a b (ix2 r n) : EReal) = ∑ k : Fin 10000, a (ix2 r k) * b (ix2 k n) := by
  pointwise [k0_pay10]
/-- What is put into the cache is the block itself: its upper half, -/
theorem pay7_at (a : S200x10000.Idx → EReal) (r : Fin 200) (n : Fin 10000) : (k0_pay7 (F := Ideal) a (ix2 r n) : EReal) = a (ix2 r n) := by
  pointwise [k0_pay7]
/-- and its lower half. -/
theorem pay8_at (a : S200x10000.Idx → EReal) (r : Fin 200) (n : Fin 10000) : (k0_pay8 (F := Ideal) a (ix2 r n) : EReal) = a (ix2 r n) := by
  pointwise [k0_pay8]
/-- The output block at an index: one sum for each of the three weight operands. -/
theorem pay3_at (t x s : S400x128.Idx → EReal) (w2 w1 w02 : S128x128.Idx → EReal) (r : Fin 400) (n : Fin 128) :
    (k0_pay3 (F := Ideal) t x s w2 w1 w02 (ix2 r n) : EReal)
      = ((∑ k : Fin 128, (two * s (ix2 r k)) * w2 (ix2 k n)) + ∑ k : Fin 128, t (ix2 r k) * w1 (ix2 k n))
        + ∑ k : Fin 128, x (ix2 r k) * w02 (ix2 k n) := by
  pointwise [k0_pay3]
/-- A block of the first product at an index: the first 200 rows from the upper half, the others from the lower one. -/
theorem pay5_at (a : S200x10000.Idx → EReal) (b : S10000x128.Idx → EReal) (a' : S200x10000.Idx → EReal) (b' : S10000x128.Idx → EReal)
    (r : Fin 400) (n : Fin 128) :
    (k0_pay5 (F := Ideal) a b a' b' (ix2 r n) : EReal) = if h : r.val < 200 then ∑ k : Fin 10000, a (ix2 ⟨r.val, h⟩ k) * b (ix2 k n)
      else ∑ k : Fin 10000, a' (ix2 ⟨r.val - 200, by have := r.isLt; omega⟩ k) * b' (ix2 k n) := by
  pointwise [k0_pay5, k0_pay4]
/-- Its copy in the narrow format holds the same numbers. -/
theorem pay6_at (a : S200x10000.Idx → EReal) (b : S10000x128.Idx → EReal) (a' : S200x10000.Idx → EReal) (b' : S10000x128.Idx → EReal)
    (r : Fin 400) (n : Fin 128) : (k0_pay6 (F := Ideal) a b a' b' (ix2 r n) : EReal) = k0_pay5 (F := Ideal) a b a' b' (ix2 r n) := by
  pointwise [k0_pay6, k0_pay5]

/-! ## The tables at an index -/

/-- `gso @ x` at row `r`, column `n`, -/
def prod1 (g : S10000x10000.Idx → EReal) (x : S10000x128.Idx → EReal) (r : Fin 10000) (n : Fin 128) : EReal :=
  ∑ k : Fin 10000, g (ix2 r k) * x (ix2 k n)
/-- and `gso @ (gso @ x)`. -/
def prod2 (g : S10000x10000.Idx → EReal) (x : S10000x128.Idx → EReal) (r : Fin 10000) (n : Fin 128) : EReal :=
  ∑ k : Fin 10000, g (ix2 r k) * prod1 g x k n

/-- A row of the upper half of a row block of `gso` is the row of `gso` there, -/
theorem gTop_at (c : Dev nD) (b : Fin 25) (r : Fin 200) (k : Fin 10000) (q : Fin 10000) (hq : q.val = 400 * b.val + r.val) :
    gTop m c b (ix2 r k) = gs m c (ix2 q k) := by
  unfold gTop VecWindow.window
  blk_ext [hq]
/-- and of the lower half 200 rows on. -/
theorem gBot_at (c : Dev nD) (b : Fin 25) (r : Fin 200) (k : Fin 10000) (q : Fin 10000) (hq : q.val = 400 * b.val + 200 + r.val) :
    gBot m c b (ix2 r k) = gs m c (ix2 q k) := by
  unfold gBot VecWindow.window
  blk_ext [hq]

/-- Phase zero's table is `gso @ x`, -/
theorem t1_at (c : Dev nD) (r : Fin 10000) (n : Fin 128) : (t1 m c (ix2 r n) : EReal) = prod1 (gs m c) (xs m c) r n := by
  have hr := r.isLt
  show (k0_pay5 (F := Ideal) (gTop m c ⟨r.val / 400, _⟩) (xs m c) (gBot m c ⟨r.val / 400, _⟩) (xs m c)
    (ix2 (n0 := 400) (n1 := 128) ⟨r.val % 400, _⟩ n) : EReal) = _
  rw [pay5_at]
  unfold prod1
  by_cases h : r.val % 400 < 200
  · rw [dif_pos h]
    exact Finset.sum_congr rfl fun k _ => congrArg (· * _) (gTop_at m c _ _ k r (by dsimp only; omega))
  · rw [dif_neg h]
    exact Finset.sum_congr rfl fun k _ => congrArg (· * _) (gBot_at m c _ _ k r (by dsimp only; omega))
/-- and so is its copy in the narrow format. -/
theorem t1n_at (c : Dev nD) (r : Fin 10000) (n : Fin 128) : (t1n m c (ix2 r n) : EReal) = prod1 (gs m c) (xs m c) r n :=
  (pay6_at _ _ _ _ _ _).trans (t1_at m c r n)

/-- The cache's row `400 s + q` is row `5200 s + q` of `gso`. -/
theorem cached_at (c : Dev nD) (r : Fin 800) (k : Fin 10000) (q : Fin 10000) (hq : q.val = 400 * (13 * (r.val / 400)) + r.val % 400) :
    (cached m c (ix2 r k) : EReal) = gs m c (ix2 q k) := by
  unfold cached
  by_cases h : r.val % 400 < 200
  · exact (dif_pos h).trans ((pay7_at _ _ _).trans (gTop_at m c ⟨13 * (r.val / 400), _⟩ ⟨r.val % 400, h⟩ k q (by dsimp only; omega)))
  · exact (dif_neg h).trans ((pay8_at _ _ _).trans (gBot_at m c ⟨13 * (r.val / 400), _⟩ ⟨r.val % 400 - 200, _⟩ k q (by dsimp only; omega)))

/-- Two halves at a row of the upper one, -/
theorem halves_lo {α : Type} (a b : S200x128.Idx → α) (r : Fin 400) (n : Fin 128) (h : r.val < 200) :
    halves a b (ix2 r n) = a (ix2 ⟨r.val, h⟩ n) := dif_pos h
/-- and of the lower one. -/
theorem halves_hi {α : Type} (a b : S200x128.Idx → α) (r : Fin 400) (n : Fin 128) (h : ¬ r.val < 200) :
    halves a b (ix2 r n) = b (ix2 ⟨r.val - 200, by have := r.isLt; omega⟩ n) := dif_neg h

/-- What phase one accumulates is a row block of `gso @ (gso @ x)`. -/
theorem acc_at (c : Dev nD) (i : grid0.Coords) (r : Fin 400) (n : Fin 128) (q : Fin 10000) (hq : q.val = 400 * (i 1).val + r.val) :
    (acc m c i (ix2 r n) : EReal) = prod2 (gs m c) (xs m c) q n := by
  unfold acc prod2
  by_cases hs : (i 1).val % 13 = 0
  · rw [if_pos hs]
    by_cases h : r.val < 200
    · refine (halves_lo _ _ r n h).trans ((pay9_at _ _ _ _).trans (Finset.sum_congr rfl fun k _ => ?_))
      refine congrArg₂ (fun a b : EReal => a * b) ?_ (t1n_at m c k n)
      have hr : 400 * ((i 1).val / 13) + r.val < 800 := by have := r.isLt; have : (i 1).val < 25 := (i 1).isLt; omega
      refine Eq.trans ?_ (cached_at m c ⟨400 * ((i 1).val / 13) + r.val, hr⟩ k q (by dsimp only; omega))
      unfold VecWindow.window
      blk_ext []
    · refine (halves_hi _ _ r n h).trans ((pay10_at _ _ _ _).trans (Finset.sum_congr rfl fun k _ => ?_))
      refine congrArg₂ (fun a b : EReal => a * b) ?_ (t1n_at m c k n)
      have hr : 400 * ((i 1).val / 13) + r.val < 800 := by have := r.isLt; have : (i 1).val < 25 := (i 1).isLt; omega
      have h4 := r.isLt
      refine Eq.trans ?_ (cached_at m c ⟨400 * ((i 1).val / 13) + r.val, hr⟩ k q (by dsimp only; omega))
      unfold VecWindow.window
      blk_ext []
  · rw [if_neg hs]
    by_cases h : r.val < 200
    · refine (halves_lo _ _ r n h).trans ((pay1_at _ _ _ _).trans (Finset.sum_congr rfl fun k _ => ?_))
      exact congrArg₂ (fun a b : EReal => a * b) (gTop_at m c _ _ k q (by dsimp only [rowBlk]; omega)) (t1_at m c k n)
    · refine (halves_hi _ _ r n h).trans ((pay2_at _ _ _ _).trans (Finset.sum_congr rfl fun k _ => ?_))
      exact congrArg₂ (fun a b : EReal => a * b) (gBot_at m c _ _ k q (by dsimp only [rowBlk]; omega)) (t1_at m c k n)

/-- The kernel's result at row `r`, column `n`, from `x`, `gso`, the three matrices it is launched with. -/
def value (g : S10000x10000.Idx → EReal) (x : S10000x128.Idx → EReal) (u1 u2 u02 : S128x128.Idx → EReal) (r : Fin 10000) (n : Fin 128) : EReal :=
  ((∑ k : Fin 128, (two * prod2 g x r k) * u2 (ix2 k n)) + ∑ k : Fin 128, prod1 g x r k * u1 (ix2 k n))
    + ∑ k : Fin 128, x (ix2 r k) * u02 (ix2 k n)

/-- A phase-one point's output block at an index. -/
theorem outBlk_at (c : Dev nD) (i : grid0.Coords) (r : Fin 400) (n : Fin 128) (q : Fin 10000) (hq : q.val = 400 * (i 1).val + r.val) :
    (outBlk m c i (ix2 r n) : EReal) = value (gs m c) (xs m c) (w1 m c) (w2 m c) (w02 m c) q n := by
  unfold outBlk
  refine (pay3_at _ _ _ _ _ _ r n).trans ?_
  have hw : ∀ (T : S10000x128.Idx → EReal) (k : Fin 128),
      VecWindow.window T ![400 * (i 1).val, 0] S400x128.size (rows_inb i) (ix2 r k) = T (ix2 q k) := fun T k => by
    unfold VecWindow.window
    blk_ext [hq]
  unfold value
  refine congrArg₂ (fun a b : EReal => a + b) (congrArg₂ (fun a b : EReal => a + b) ?_ ?_) ?_
  · exact Finset.sum_congr rfl fun k _ => congrArg (fun a : EReal => (two * a) * _) (acc_at m c i r k q hq)
  · exact Finset.sum_congr rfl fun k _ => congrArg (fun a : EReal => a * _) ((hw _ k).trans (t1_at m c q k))
  · exact Finset.sum_congr rfl fun k _ => congrArg (fun a : EReal => a * _) (hw _ k)

/-! ## The result array -/

/-- After the run the result array holds `value` at every index. -/
theorem result (c : Dev nD) :
    (dats m 0 c).arrAt 6 cfg0.N = fun j : S10000x128.Idx => value (gs m c) (xs m c) (w1 m c) (w2 m c) (w02 m c) (j 0) (j 1) := by
  refine (dats m 0 c).arrAt_eq_of_covers 6 _ (by decide +kernel) fun t hf y => ?_
  have ht : 25 ≤ t.val := by
    by_contra h
    rw [noFlush6 t (by omega)] at hf
    exact Bool.noConfusion hf
  have e : win0_6.index t = ![t.val - 25, 0] := block6 t ht
  have hc := (coords_val t).2
  have hN : t.val < 50 := lt_of_lt_of_eq t.isLt N_0
  blk_simp
  rw [after0_6]
  have h0 : ((win0_6.blk t).view.emb y 0).val = 400 * (grid0.coords t 1).val + (y 0).val := by
    rw [hc]
    blk_simp [e]
    omega
  have h1 : (win0_6.blk t).view.emb y 1 = y 1 := Fin.ext (by blk_simp [e])
  refine Eq.trans (congrArg (outBlk m c (grid0.coords t)) ?_)
    ((outBlk_at m c (grid0.coords t) (y 0) (y 1) ((win0_6.blk t).view.emb y 0) h0).trans ?_)
  · funext a
    match a with
    | ⟨0, _⟩ => rfl
    | ⟨1, _⟩ => rfl
  · exact (congrArg (value (gs m c) (xs m c) (w1 m c) (w2 m c) (w02 m c) ((win0_6.blk t).view.emb y 0)) h1).symm

end Cert.KernelIdeal.Gen

end
-- ==== Proof.Equal.lean ====
/- Over the extended reals: the arguments' precondition as statements about single elements, the reference's result at an index, and the equation between it and the kernel's. -/
module

public import proofs.«01_k».proof.Proof.Value
public import proofs.«01_k».proof.Proof.Gen.ReferenceIdeal.Run
public import proofs.«01_k».proof.Pre_finite_operands
public import Idealize.ShloMosaic.Lib.StableHlo.ReadAt

@[expose] public section

set_option maxRecDepth 16384

noncomputable section

namespace Cert.Proof

open Idealize.ShloMosaic Idealize.ShloMosaic.TcCoe
open Idealize.SL Idealize.SL.Sem
open Cert.KernelIdeal.Gen (two prod1 prod2 value)

/-! ## The precondition -/

/-- The side conditions of the precondition's operations. -/
theorem preFacts : Cert.Pre_finite_operands.Facts where
  bcast_S_S10000x128 := by decide +kernel
  slices_S3x128x128_S1x128x128_2_0_0 := by decide +kernel
  shapeCasts_S1x128x128_S128x128 := by decide +kernel
  bcast_S_S128x128 := by decide +kernel

/-- The float constant the precondition compares with is the top of the extended reals. -/
theorem inf_eq_top : Ideal.ofBits .f32 0x7F800000#32 = (⊤ : EReal) := by
  simp [Ideal.ofBits, Ideal.ieee]

/-- The factor two is the number two. -/
theorem two_eq : two = 2 := by
  unfold two
  rw [show (2 : EReal) = ((2 : ℝ) : EReal) by norm_cast]
  simp [Ideal.ofBits, Ideal.ieee, -EReal.coe_mul]
  norm_num

/-- An extended real whose absolute value lies below the top is a real number. -/
theorem real_of_abs_lt {a : EReal} (h : max a (-a) < ⊤) : ∃ r : ℝ, a = (r : EReal) := by
  induction a with
  | bot => simp at h
  | top => simp at h
  | coe r => exact ⟨r, rfl⟩

/-- The precondition's comparison at one element, as a statement about it. -/
theorem lt_top_of_bit (a : EReal) :
    BitVec.ofBool (decide (FloatOps.absf (F := Ideal) (φ := .f32) a < Ideal.ofBits .f32 0x7F800000#32)) = 1#1 → max a (-a) < ⊤ := by
  rw [inf_eq_top]
  intro h
  by_contra hn
  rw [decide_eq_false (show ¬ (FloatOps.absf (F := Ideal) (φ := .f32) a < (⊤ : EReal)) from hn)] at h
  exact absurd h (by decide)

/-! ## Distribution over the extended reals -/

/-- Multiplication by a real number distributes over a sum with a real number. -/
theorem add_mul_real (y : EReal) (z c : ℝ) : (y + (z : EReal)) * (c : EReal) = y * (c : EReal) + (z : EReal) * (c : EReal) := by
  induction y with
  | coe y => norm_cast; ring
  | top =>
    rw [EReal.top_add_coe, ← EReal.coe_mul]
    rcases lt_trichotomy c 0 with h | h | h
    · rw [EReal.top_mul_coe_of_neg h, EReal.bot_add]
    · simp [h]
    · rw [EReal.top_mul_coe_of_pos h, EReal.top_add_coe]
  | bot =>
    rw [EReal.bot_add, ← EReal.coe_mul]
    rcases lt_trichotomy c 0 with h | h | h
    · rw [EReal.bot_mul_coe_of_neg h, EReal.top_add_coe]
    · simp [h]
    · rw [EReal.bot_mul_coe_of_pos h, EReal.bot_add]

/-- One term of the two results: subtracting `x` before the third product is subtracting the third weight from the first. -/
theorem term_eq (A w0 : EReal) (x w2 : ℝ) :
    x * w0 + (A - x) * w2 = A * w2 + x * (w0 - w2) := by
  have h1 : (A - x) * w2 = A * w2 + ((-x * w2 : ℝ) : EReal) := by
    rw [sub_eq_add_neg, ← EReal.coe_neg, add_mul_real, EReal.coe_mul]
  have h2 : (x : EReal) * (w0 - w2) = x * w0 + ((-x * w2 : ℝ) : EReal) := by
    rw [mul_comm, sub_eq_add_neg, ← EReal.coe_neg, add_mul_real, mul_comm w0, ← EReal.coe_mul]
    congr 2
    ring
  rw [h1, h2]
  abel

/-- Two factors out of a sum. -/
theorem two_mul_sum {ι : Type} (s : Finset ι) (a b : ι → EReal) : ∑ l ∈ s, two * a l * b l = two * ∑ l ∈ s, a l * b l := by
  classical
  have h0 : (0 : EReal) ≤ two := by rw [two_eq]; norm_num
  have h1 : two ≠ ⊤ := by rw [two_eq]; exact EReal.coe_ne_top 2
  induction s using Finset.induction_on with
  | empty => simp
  | insert i s hi ih => rw [Finset.sum_insert hi, Finset.sum_insert hi, ih, EReal.left_distrib_of_nonneg_of_ne_top h0 h1, mul_assoc]

/-! ## The weights as the kernel reads them -/

section Weights
open Cert.KernelIdeal Cert.KernelIdeal.Gen
variable (m : (ℓ : Loc nD τ sig) → Buf (Elt Ideal) ℓ)

/-- The weight argument, on device `c`. -/
abbrev wts (c : Dev nD) : S3x128x128.Idx → EReal := m ((c.tc : Thread nD τ).loc main_arg2)

/-- The kernel's first weight operand is the second matrix of the weight argument, -/
theorem w1_at (c : Dev nD) (k n : Fin 128) : (w1 m c (ix2 k n) : EReal) = wts m c (ix3 1 k n) := by
  unfold w1 V
  after_reads_at
/-- its second is the third matrix, -/
theorem w2_at (c : Dev nD) (k n : Fin 128) : (w2 m c (ix2 k n) : EReal) = wts m c (ix3 2 k n) := by
  unfold w2 V
  after_reads_at
/-- and its third is the first matrix less the third. -/
theorem w02_at (c : Dev nD) (k n : Fin 128) : (w02 m c (ix2 k n) : EReal) = wts m c (ix3 0 k n) - wts m c (ix3 2 k n) := by
  unfold w02 V
  after_reads_at
end Weights

/-- What the precondition says of the arguments: every element of `x` and of the third weight matrix is a real number. -/
theorem pre_real (x : Cert.Pre_finite_operands.S10000x128.Idx → EReal) (g : Cert.Pre_finite_operands.S10000x10000.Idx → EReal)
    (w : Cert.Pre_finite_operands.S3x128x128.Idx → EReal)
    (h : (@Cert.Pre_finite_operands.fn preFacts Ideal _ x g w).1 = (fun _ => 1#1) ∧ (@Cert.Pre_finite_operands.fn preFacts Ideal _ x g w).2 = (fun _ => 1#1)) :
    (∀ (r : Fin 10000) (k : Fin 128), ∃ a : ℝ, x (ix2 r k) = (a : EReal)) ∧ (∀ k n : Fin 128, ∃ a : ℝ, w (ix3 2 k n) = (a : EReal)) := by
  unfold Cert.Pre_finite_operands.fn at h
  refine ⟨fun r k => real_of_abs_lt ?_, fun k n => real_of_abs_lt ?_⟩
  · have := congrFun h.1 (ix2 r k)
    revert this
    pointwise
    exact lt_top_of_bit _
  · have := congrFun h.2 (ix2 k n)
    revert this
    pointwise
    exact lt_top_of_bit _

/-! ## The reference's result -/
section Reference
open Cert.ReferenceIdeal Cert.ReferenceIdeal.Gen
/-- The reference's result as a function of its arguments. -/
def refOut (x : FVec Ideal S10000x128 .f32) (g : FVec Ideal S10000x10000 .f32) (w : FVec Ideal S3x128x128 .f32) : FVec Ideal S10000x128 .f32 :=
  Host.dotGeneral dot_S3x10000x128_S3x128x128_S10000x128_02_01_1_2_n_n none
    (concatenate S3x10000x128 0
      [⟨S1x10000x128, (broadcastInDim S1x10000x128 ![1, 2] bcast_S10000x128_S1x10000x128_1_2 x : FVec Ideal S1x10000x128 .f32)⟩,
       ⟨S1x10000x128, (broadcastInDim S1x10000x128 ![1, 2] bcast_S10000x128_S1x10000x128_1_2
          (Host.dotGeneral dot_S10000x10000_S10000x128_S10000x128_1_0_0_1_n_n none g x : FVec Ideal S10000x128 .f32) : FVec Ideal S1x10000x128 .f32)⟩,
       ⟨S1x10000x128, (broadcastInDim S1x10000x128 ![1, 2] bcast_S10000x128_S1x10000x128_1_2
          (subf (Host.dotGeneral dot_S10000x10000_S10000x128_S10000x128_1_0_0_1_n_n none
              (mulf (broadcastInDim S10000x10000 ![] bcast_S_S10000x10000 (constant S_ .f32 0x40000000#32)) g)
              (Host.dotGeneral dot_S10000x10000_S10000x128_S10000x128_1_0_0_1_n_n none g x : FVec Ideal S10000x128 .f32)) x : FVec Ideal S10000x128 .f32) : FVec Ideal S1x10000x128 .f32)⟩]
      concatenates_S1x10000x128_S1x10000x128_S1x10000x128_S3x10000x128_d0 : FVec Ideal S3x10000x128 .f32) w

/-- The reference's result at an index: one sum for each of the three polynomials. -/
theorem refOut_at (x : S10000x128.Idx → EReal) (g : S10000x10000.Idx → EReal) (w : S3x128x128.Idx → EReal) (r : Fin 10000) (n : Fin 128) :
    (refOut x g w (ix2 r n) : EReal) = ((∑ k : Fin 128, x (ix2 r k) * w (ix3 0 k n)) + ∑ k : Fin 128, prod1 g x r k * w (ix3 1 k n))
      + ∑ k : Fin 128, ((∑ l : Fin 10000, two * g (ix2 r l) * prod1 g x l k) - x (ix2 r k)) * w (ix3 2 k n) := by
  unfold refOut
  pointwise
  rw [Fin.sum_univ_three]
  rfl

/-- Where the precondition holds, the kernel's element is the reference's. -/
theorem value_eq (x : S10000x128.Idx → EReal) (g : S10000x10000.Idx → EReal) (w : S3x128x128.Idx → EReal) (u1 u2 u02 : Cert.KernelIdeal.S128x128.Idx → EReal)
    (hx : ∀ (r : Fin 10000) (k : Fin 128), ∃ a : ℝ, x (ix2 r k) = (a : EReal)) (hw : ∀ k n : Fin 128, ∃ a : ℝ, w (ix3 2 k n) = (a : EReal))
    (h1 : ∀ k n : Fin 128, u1 (ix2 k n) = w (ix3 1 k n)) (h2 : ∀ k n : Fin 128, u2 (ix2 k n) = w (ix3 2 k n))
    (h02 : ∀ k n : Fin 128, u02 (ix2 k n) = w (ix3 0 k n) - w (ix3 2 k n)) (r : Fin 10000) (n : Fin 128) :
    value g x u1 u2 u02 r n = refOut x g w (ix2 r n) := by
  rw [refOut_at]
  unfold value
  have ht : ∀ k : Fin 128, two * prod2 g x r k * u2 (ix2 k n) + x (ix2 r k) * u02 (ix2 k n)
      = x (ix2 r k) * w (ix3 0 k n) + ((∑ l : Fin 10000, two * g (ix2 r l) * prod1 g x l k) - x (ix2 r k)) * w (ix3 2 k n) := fun k => by
    obtain ⟨a, ha⟩ := hx r k
    obtain ⟨b, hb⟩ := hw k n
    rw [two_mul_sum, h2, h02, ha, hb]
    exact (term_eq _ _ a b).symm
  have hs := Finset.sum_congr (rfl : (Finset.univ : Finset (Fin 128)) = Finset.univ) fun k _ => ht k
  rw [Finset.sum_add_distrib, Finset.sum_add_distrib] at hs
  simp only [h1]
  rw [add_right_comm, hs, add_right_comm]
end Reference

/-! ## The two runs -/

section Runs
open Cert.KernelIdeal Cert.KernelIdeal.Gen

/-- The kernel's result array, where the precondition holds, is the reference's function of the arguments. -/
theorem kernel_value (m : (ℓ : Loc nD τ sig) → Buf (Elt Ideal) ℓ) (c : Dev nD)
    (hx : ∀ (r : Fin 10000) (k : Fin 128), ∃ a : ℝ, (m ((c.tc : Thread nD τ).loc main_arg0) : S10000x128.Idx → EReal) (ix2 r k) = (a : EReal))
    (hw : ∀ k n : Fin 128, ∃ a : ℝ, wts m c (ix3 2 k n) = (a : EReal)) :
    (dats m 0 c).arrAt 6 cfg0.N
      = refOut (m ((c.tc : Thread nD τ).loc main_arg0)) (m ((c.tc : Thread nD τ).loc main_arg1)) (m ((c.tc : Thread nD τ).loc main_arg2)) := by
  rw [result]
  funext j
  have hj : j = ix2 (j 0) (j 1) := by
    funext a
    match a with
    | ⟨0, _⟩ => rfl
    | ⟨1, _⟩ => rfl
  rw [show gs m c = m ((c.tc : Thread nD τ).loc main_arg1) from V_main_arg1 m c,
    show xs m c = m ((c.tc : Thread nD τ).loc main_arg0) from V_main_arg0 m c]
  refine (value_eq _ _ (wts m c) _ _ _ hx hw (w1_at m c) (w2_at m c) (w02_at m c) (j 0) (j 1)).trans ?_
  exact congrArg (refOut _ _ _) hj.symm

/-- Every run of the kernel leaves the reference's function of the arguments in the result, and the arguments as they were. -/
theorem kernel_run (m : (ℓ : Loc nD τ sig) → Buf (Elt Ideal) ℓ) (ρ : Dev nD → PrngReg)
    (h : ∀ c : Dev nD, (∀ (r : Fin 10000) (k : Fin 128), ∃ a : ℝ, (m ((c.tc : Thread nD τ).loc main_arg0) : S10000x128.Idx → EReal) (ix2 r k) = (a : EReal))
      ∧ ∀ k n : Fin 128, ∃ a : ℝ, wts m c (ix3 2 k n) = (a : EReal)) :
    θ_run defs (onTc (τ := τ) (main (F := Ideal))) ⟨m, fun _ => 0, ρ⟩ (fun r => ∀ c : Dev nD,
      r.2.mem ((c.tc : Thread nD τ).loc main_v7)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c => ⟨((hr.1 c).1 6).trans (kernel_value m c (h c).1 (h c).2), hr.2.1 c⟩)
    (θ_run_and (run_main m ρ) (quiescent m ρ))
end Runs

end Cert.Proof

end
-- ==== Proof.lean ====
module

public import proofs.«01_k».proof.Defs
public import proofs.«01_k».proof.Proof.Printed
public import proofs.«01_k».proof.Proof.Equal
public import Idealize.ShloMosaic.Lib.Quiescent

@[expose] public section

noncomputable section

namespace Cert.Proof

open Idealize.ShloMosaic Idealize.SL.Sem

/-- The frame of the kernel as printed. -/
theorem frame_printed : @Cert.quiescent_Kernel Cert.Kernel.Gen.facts := fun m g _ => Cert.Kernel.Gen.quiescent m g

/-- The frame of the kernel over the extended reals. -/
theorem frame_kernel : @Cert.quiescent_KernelIdeal Cert.KernelIdeal.Gen.facts := fun m g _ => Cert.KernelIdeal.Gen.quiescent m g

/-- The frame of the reference: it has no semaphore, so each reads zero. -/
theorem frame_reference : @Cert.quiescent_ReferenceIdeal Cert.ReferenceIdeal.Gen.facts := fun m g _ =>
  (θ_run _ _ _).mono (fun _ h => ⟨fun c => (h c).2, sem_eq_zero_of_no_sems rfl _⟩) (Cert.ReferenceIdeal.Value.run m g)

/-- The two runs from equal arguments, on which the precondition holds, end with equal results. -/
theorem results_equal : @Cert.algebraic_KernelIdeal_ReferenceIdeal_pre_finite_operands Cert.KernelIdeal.Gen.facts Cert.ReferenceIdeal.Gen.facts preFacts := by
  intro m g m' g' hpre hargs
  refine ⟨fun c => refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    kernel_run m g fun c => pre_real _ _ _ (hpre c), ?_⟩
  refine (θ_run _ _ _).mono (fun _ h c => ⟨(h c).1.trans ?_, (h c).2⟩) (Cert.ReferenceIdeal.Value.run m' g')
  obtain ⟨h0, h1, h2⟩ := hargs c
  rw [h0, h1, h2]
  rfl

/-- Every claim of the certificate holds. -/
theorem claim : Cert.Claim :=
  ⟨Cert.Kernel.Gen.facts, Cert.KernelIdeal.Gen.facts, Cert.ReferenceIdeal.Gen.facts, preFacts,
    frame_printed, frame_kernel, fun m g _ => frame_kernel m g trivial, frame_reference, fun m g _ => frame_reference m g trivial,
    trivial, results_equal⟩

end Cert.Proof

end
